-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x960000 : Shape := ⟨2, ![32, 960000]⟩
abbrev S32x6000x160 : Shape := ⟨3, ![32, 6000, 160]⟩
abbrev S512 : Shape := ⟨1, ![512]⟩
abbrev S_ : Shape := ⟨0, ![]⟩
abbrev S256 : Shape := ⟨1, ![256]⟩
abbrev S512x1 : Shape := ⟨2, ![512, 1]⟩
abbrev S1x256 : Shape := ⟨2, ![1, 256]⟩
abbrev S512x256 : Shape := ⟨2, ![512, 256]⟩
abbrev S512x512 : Shape := ⟨2, ![512, 512]⟩
abbrev S64x512 : Shape := ⟨2, ![64, 512]⟩
abbrev S640x512 : Shape := ⟨2, ![640, 512]⟩
abbrev S1 : Shape := ⟨1, ![1]⟩
abbrev S257 : Shape := ⟨1, ![257]⟩
abbrev S81 : Shape := ⟨1, ![81]⟩
abbrev S82 : Shape := ⟨1, ![82]⟩
abbrev S1x82 : Shape := ⟨2, ![1, 82]⟩
abbrev S257x1 : Shape := ⟨2, ![257, 1]⟩
abbrev S257x82 : Shape := ⟨2, ![257, 82]⟩
abbrev S257x80 : Shape := ⟨2, ![257, 80]⟩
abbrev S80 : Shape := ⟨1, ![80]⟩
abbrev S1x80 : Shape := ⟨2, ![1, 80]⟩
abbrev S256x80 : Shape := ⟨2, ![256, 80]⟩
abbrev S80x256 : Shape := ⟨2, ![80, 256]⟩
abbrev S256x1 : Shape := ⟨2, ![256, 1]⟩
abbrev S256x256 : Shape := ⟨2, ![256, 256]⟩
abbrev S32x1024 : Shape := ⟨2, ![32, 1024]⟩
abbrev S32x256 : Shape := ⟨2, ![32, 256]⟩
abbrev S32x2560 : Shape := ⟨2, ![32, 2560]⟩
abbrev S32x16x160 : Shape := ⟨3, ![32, 16, 160]⟩
abbrev S32x80x6001 : Shape := ⟨3, ![32, 80, 6001]⟩
abbrev S1x6000x160 : Shape := ⟨3, ![1, 6000, 160]⟩
abbrev S1x16x160 : Shape := ⟨3, ![1, 16, 160]⟩
abbrev S1x80x1024 : Shape := ⟨3, ![1, 80, 1024]⟩
abbrev S80x1 : Shape := ⟨2, ![80, 1]⟩
abbrev S272x160 : Shape := ⟨2, ![272, 160]⟩
abbrev S1x8x160 : Shape := ⟨3, ![1, 8, 160]⟩
abbrev S8x160 : Shape := ⟨2, ![8, 160]⟩
abbrev S1x264x160 : Shape := ⟨3, ![1, 264, 160]⟩
abbrev S264x160 : Shape := ⟨2, ![264, 160]⟩
abbrev S1x272x160 : Shape := ⟨3, ![1, 272, 160]⟩
abbrev S1x120x160 : Shape := ⟨3, ![1, 120, 160]⟩
abbrev S120x160 : Shape := ⟨2, ![120, 160]⟩
abbrev S144x160 : Shape := ⟨2, ![144, 160]⟩
abbrev S256x160 : Shape := ⟨2, ![256, 160]⟩
abbrev S160x512 : Shape := ⟨2, ![160, 512]⟩
abbrev S256x512 : Shape := ⟨2, ![256, 512]⟩
abbrev S1x80x256 : Shape := ⟨3, ![1, 80, 256]⟩

abbrev nBuf : Space → Nat
  | .hbm => 179
  | .vmem => 13
  | .smem => 0
  | _ => 0

abbrev hbmTy0_0 (i : Nat) : BufTy := match i % 128 with
  | 0 => ⟨S32x960000, .f32⟩
  | 1 => ⟨S32x6000x160, .f32⟩
  | 2 => ⟨S512, .f32⟩
  | 3 => ⟨S_, .f32⟩
  | 4 => ⟨S512, .f32⟩
  | 5 => ⟨S512, .f32⟩
  | 6 => ⟨S_, .f32⟩
  | 7 => ⟨S512, .f32⟩
  | 8 => ⟨S512, .f32⟩
  | 9 => ⟨S512, .f32⟩
  | 10 => ⟨S_, .f32⟩
  | 11 => ⟨S512, .f32⟩
  | 12 => ⟨S512, .f32⟩
  | 13 => ⟨S_, .f32⟩
  | 14 => ⟨S512, .f32⟩
  | 15 => ⟨S512, .f32⟩
  | 16 => ⟨S256, .f32⟩
  | 17 => ⟨S_, .f32⟩
  | 18 => ⟨S256, .f32⟩
  | 19 => ⟨S256, .f32⟩
  | 20 => ⟨S512x1, .f32⟩
  | 21 => ⟨S1x256, .f32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .f32⟩
  | 28 => ⟨S_, .f32⟩
  | 29 => ⟨S512x256, .f32⟩
  | 30 => ⟨S512x256, .f32⟩
  | 31 => ⟨S512x1, .f32⟩
  | 32 => ⟨S512x256, .f32⟩
  | 33 => ⟨S512x256, .f32⟩
  | 34 => ⟨S512x256, .f32⟩
  | 35 => ⟨S512x1, .f32⟩
  | 36 => ⟨S512x256, .f32⟩
  | 37 => ⟨S512x256, .f32⟩
  | 38 => ⟨S512x256, .f32⟩
  | 39 => ⟨S512x512, .f32⟩
  | 40 => ⟨S_, .f32⟩
  | 41 => ⟨S64x512, .f32⟩
  | 42 => ⟨S_, .f32⟩
  | 43 => ⟨S64x512, .f32⟩
  | 44 => ⟨S640x512, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S256, .f32⟩
  | 53 => ⟨S_, .f32⟩
  | 54 => ⟨S256, .f32⟩
  | 55 => ⟨S256, .f32⟩
  | 56 => ⟨S1, .f32⟩
  | 57 => ⟨S_, .f32⟩
  | 58 => ⟨S256, .f32⟩
  | 59 => ⟨S256, .f32⟩
  | 60 => ⟨S256, .f32⟩
  | 61 => ⟨S256, .f32⟩
  | 62 => ⟨S1, .f32⟩
  | 63 => ⟨S256, .f32⟩
  | 64 => ⟨S256, .f32⟩
  | 65 => ⟨S256, .f32⟩
  | 66 => ⟨S1, .f32⟩
  | 67 => ⟨S257, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S81, .f32⟩
  | 84 => ⟨S_, .f32⟩
  | 85 => ⟨S81, .f32⟩
  | 86 => ⟨S81, .f32⟩
  | 87 => ⟨S1, .f32⟩
  | 88 => ⟨S_, .f32⟩
  | 89 => ⟨S81, .f32⟩
  | 90 => ⟨S81, .f32⟩
  | 91 => ⟨S81, .f32⟩
  | 92 => ⟨S81, .f32⟩
  | 93 => ⟨S1, .f32⟩
  | 94 => ⟨S81, .f32⟩
  | 95 => ⟨S81, .f32⟩
  | 96 => ⟨S81, .f32⟩
  | 97 => ⟨S1, .f32⟩
  | 98 => ⟨S82, .f32⟩
  | 99 => ⟨S_, .f32⟩
  | 100 => ⟨S82, .f32⟩
  | 101 => ⟨S82, .f32⟩
  | 102 => ⟨S_, .f32⟩
  | 103 => ⟨S82, .f32⟩
  | 104 => ⟨S82, .f32⟩
  | 105 => ⟨S_, .f32⟩
  | 106 => ⟨S82, .f32⟩
  | 107 => ⟨S82, .f32⟩
  | 108 => ⟨S_, .f32⟩
  | 109 => ⟨S82, .f32⟩
  | 110 => ⟨S82, .f32⟩
  | 111 => ⟨S81, .f32⟩
  | 112 => ⟨S81, .f32⟩
  | 113 => ⟨S81, .f32⟩
  | 114 => ⟨S1x82, .f32⟩
  | 115 => ⟨S257x1, .f32⟩
  | 116 => ⟨S257x82, .f32⟩
  | 117 => ⟨S257x82, .f32⟩
  | 118 => ⟨S257x82, .f32⟩
  | 119 => ⟨S257x80, .f32⟩
  | 120 => ⟨S257x80, .f32⟩
  | 121 => ⟨S80, .f32⟩
  | 122 => ⟨S1x80, .f32⟩
  | 123 => ⟨S257x80, .f32⟩
  | 124 => ⟨S257x80, .f32⟩
  | 125 => ⟨S257x80, .f32⟩
  | 126 => ⟨S80, .f32⟩
  | 127 => ⟨S1x80, .f32⟩
  | _ => ⟨S32x960000, .f32⟩

abbrev hbmTy0_1 (i : Nat) : BufTy := match i % 128 with
  | 0 => ⟨S257x80, .f32⟩
  | 1 => ⟨S257x80, .f32⟩
  | 2 => ⟨S257x80, .f32⟩
  | 3 => ⟨S_, .f32⟩
  | 4 => ⟨S_, .f32⟩
  | 5 => ⟨S257x80, .f32⟩
  | 6 => ⟨S257x80, .f32⟩
  | 7 => ⟨S256x80, .f32⟩
  | 8 => ⟨S80x256, .f32⟩
  | 9 => ⟨S256, .f32⟩
  | 10 => ⟨S1x256, .f32⟩
  | 11 => ⟨S256x1, .f32⟩
  | 12 => ⟨S256x256, .f32⟩
  | 13 => ⟨S256x256, .f32⟩
  | 14 => ⟨S256x256, .i1⟩
  | 15 => ⟨S_, .f32⟩
  | 16 => ⟨S_, .f32⟩
  | 17 => ⟨S_, .f32⟩
  | 18 => ⟨S1x256, .f32⟩
  | 19 => ⟨S256x1, .f32⟩
  | 20 => ⟨S256x256, .f32⟩
  | 21 => ⟨S256x256, .f32⟩
  | 22 => ⟨S256x256, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S_, .f32⟩
  | 29 => ⟨S_, .f32⟩
  | 30 => ⟨S256x256, .f32⟩
  | 31 => ⟨S256x256, .f32⟩
  | 32 => ⟨S_, .f32⟩
  | 33 => ⟨S_, .f32⟩
  | 34 => ⟨S_, .f32⟩
  | 35 => ⟨S_, .f32⟩
  | 36 => ⟨S256, .f32⟩
  | 37 => ⟨S256, .f32⟩
  | 38 => ⟨S256, .f32⟩
  | 39 => ⟨S256, .f32⟩
  | 40 => ⟨S1x256, .f32⟩
  | 41 => ⟨S640x512, .bf16⟩
  | 42 => ⟨S_, .f32⟩
  | 43 => ⟨S32x1024, .f32⟩
  | 44 => ⟨S32x256, .f32⟩
  | 45 => ⟨S32x256, .f32⟩
  | 46 => ⟨S32x256, .f32⟩
  | 47 => ⟨S32x256, .f32⟩
  | 48 => ⟨S32x2560, .f32⟩
  | 49 => ⟨S32x16x160, .f32⟩
  | 50 => ⟨S32x80x6001, .f32⟩
  | _ => ⟨S32x960000, .f32⟩

abbrev hbmTy (i : Nat) : BufTy := match i / 128 with
  | 0 => hbmTy0_0 i
  | 1 => hbmTy0_1 i
  | _ => ⟨S32x960000, .f32⟩

abbrev bufTy : (tb : Table) → Fin (tcTables nBuf tb) → BufTy
  | .hbm, ⟨i, _⟩ => hbmTy i
  | .local _ .vmem, ⟨0, _⟩ => ⟨S1x6000x160, .f32⟩
  | .local _ .vmem, ⟨1, _⟩ => ⟨S1x6000x160, .f32⟩
  | .local _ .vmem, ⟨2, _⟩ => ⟨S1x16x160, .f32⟩
  | .local _ .vmem, ⟨3, _⟩ => ⟨S1x16x160, .f32⟩
  | .local _ .vmem, ⟨4, _⟩ => ⟨S640x512, .bf16⟩
  | .local _ .vmem, ⟨5, _⟩ => ⟨S80x256, .f32⟩
  | .local _ .vmem, ⟨6, _⟩ => ⟨S256x256, .f32⟩
  | .local _ .vmem, ⟨7, _⟩ => ⟨S1x256, .f32⟩
  | .local _ .vmem, ⟨8, _⟩ => ⟨S1x80x1024, .f32⟩
  | .local _ .vmem, ⟨9, _⟩ => ⟨S1x80x1024, .f32⟩
  | .local _ .vmem, ⟨10, _⟩ => ⟨S80x1, .f32⟩
  | .local _ .vmem, ⟨11, _⟩ => ⟨S272x160, .f32⟩
  | .local _ .vmem, ⟨12, _⟩ => ⟨S272x160, .f32⟩
  | _, _ => ⟨S32x960000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_cst_7 : Ref sig .tc := ⟨.hbm, 42, rfl⟩
abbrev main_v33 : Ref sig .tc := ⟨.hbm, 43, rfl⟩
abbrev main_v34 : Ref sig .tc := ⟨.hbm, 44, rfl⟩
abbrev main_cst_8 : Ref sig .tc := ⟨.hbm, 45, rfl⟩
abbrev main_cst_9 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_cst : Ref sig .tc := ⟨.hbm, 50, rfl⟩
abbrev main_call0_v3 : Ref sig .tc := ⟨.hbm, 51, rfl⟩
abbrev main_call0_v4 : Ref sig .tc := ⟨.hbm, 52, rfl⟩
abbrev main_call0_cst_0 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_v15 : Ref sig .tc := ⟨.hbm, 65, rfl⟩
abbrev main_call0_v16 : Ref sig .tc := ⟨.hbm, 66, rfl⟩
abbrev main_v35 : Ref sig .tc := ⟨.hbm, 67, rfl⟩
abbrev main_cst_10 : Ref sig .tc := ⟨.hbm, 68, rfl⟩
abbrev main_v36 : Ref sig .tc := ⟨.hbm, 69, rfl⟩
abbrev main_cst_11 : Ref sig .tc := ⟨.hbm, 70, rfl⟩
abbrev main_v37 : Ref sig .tc := ⟨.hbm, 71, rfl⟩
abbrev main_cst_12 : Ref sig .tc := ⟨.hbm, 72, rfl⟩
abbrev main_v38 : Ref sig .tc := ⟨.hbm, 73, rfl⟩
abbrev main_cst_13 : Ref sig .tc := ⟨.hbm, 74, rfl⟩
abbrev main_v39 : Ref sig .tc := ⟨.hbm, 75, rfl⟩
abbrev main_cst_14 : Ref sig .tc := ⟨.hbm, 76, rfl⟩
abbrev main_v40 : Ref sig .tc := ⟨.hbm, 77, rfl⟩
abbrev main_cst_15 : Ref sig .tc := ⟨.hbm, 78, rfl⟩
abbrev main_v41 : Ref sig .tc := ⟨.hbm, 79, rfl⟩
abbrev main_call1_v0 : Ref sig .tc := ⟨.hbm, 80, rfl⟩
abbrev main_call1_cst : Ref sig .tc := ⟨.hbm, 81, rfl⟩
abbrev main_call1_v1 : Ref sig .tc := ⟨.hbm, 82, rfl⟩
abbrev main_call1_v2 : Ref sig .tc := ⟨.hbm, 83, rfl⟩
abbrev main_call1_cst_0 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_cst_1 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_v42 : Ref sig .tc := ⟨.hbm, 98, rfl⟩
abbrev main_cst_16 : Ref sig .tc := ⟨.hbm, 99, rfl⟩
abbrev main_v43 : Ref sig .tc := ⟨.hbm, 100, rfl⟩
abbrev main_v44 : Ref sig .tc := ⟨.hbm, 101, rfl⟩
abbrev main_cst_17 : Ref sig .tc := ⟨.hbm, 102, rfl⟩
abbrev main_v45 : Ref sig .tc := ⟨.hbm, 103, rfl⟩
abbrev main_v46 : Ref sig .tc := ⟨.hbm, 104, rfl⟩
abbrev main_cst_18 : Ref sig .tc := ⟨.hbm, 105, rfl⟩
abbrev main_v47 : Ref sig .tc := ⟨.hbm, 106, rfl⟩
abbrev main_v48 : Ref sig .tc := ⟨.hbm, 107, rfl⟩
abbrev main_cst_19 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_20 : Ref sig .tc := ⟨.hbm, 131, rfl⟩
abbrev main_call2_v0 : Ref sig .tc := ⟨.hbm, 132, rfl⟩
abbrev main_call2_v1 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_21 : Ref sig .tc := ⟨.hbm, 143, rfl⟩
abbrev main_cst_22 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_23 : Ref sig .tc := ⟨.hbm, 153, rfl⟩
abbrev main_v88 : Ref sig .tc := ⟨.hbm, 154, rfl⟩
abbrev main_v89 : Ref sig .tc := ⟨.hbm, 155, rfl⟩
abbrev main_cst_24 : Ref sig .tc := ⟨.hbm, 156, rfl⟩
abbrev main_call3_v0 : Ref sig .tc := ⟨.hbm, 157, rfl⟩
abbrev main_call3_v1 : Ref sig .tc := ⟨.hbm, 158, rfl⟩
abbrev main_v90 : Ref sig .tc := ⟨.hbm, 159, rfl⟩
abbrev main_cst_25 : Ref sig .tc := ⟨.hbm, 160, rfl⟩
abbrev main_cst_26 : Ref sig .tc := ⟨.hbm, 161, rfl⟩
abbrev main_v91 : Ref sig .tc := ⟨.hbm, 162, rfl⟩
abbrev main_cst_27 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_cst_28 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg1 : BitVec 32 := BitVec.ofNat 32 (i 1).val
  let c1024_i32_126 : BitVec 32 := 1024#32
  let v275 : BitVec 32 := Scalar.muli arg1 c1024_i32_126
  let c8_i32_127 : BitVec 32 := 8#32
  let v276 : BitVec 32 := Scalar.subi v275 c8_i32_127
  v276
def k0_off1 (i : grid0.Coords) : Fin 3 → Nat :=
  let c0_128 : Index := 0#32
  let arg1 : BitVec 32 := BitVec.ofNat 32 (i 1).val
  let c1024_i32_126 : BitVec 32 := 1024#32
  let v275 : BitVec 32 := Scalar.muli arg1 c1024_i32_126
  let c8_i32_127 : BitVec 32 := 8#32
  let v276 : BitVec 32 := Scalar.subi v275 c8_i32_127
  let v277 : BitVec 32 := v276
  let v278 : Index := Scalar.indexCast v277
  let c0_129 : Index := 0#32
  ![0, v278.toNat, 0]
def k0_mult2 (i : grid0.Coords) : BitVec 32 :=
  let arg1 : BitVec 32 := BitVec.ofNat 32 (i 1).val
  let c1024_i32 : BitVec 32 := 1024#32
  let v7 : BitVec 32 := Scalar.muli arg1 c1024_i32
  let c256_i32 : BitVec 32 := 256#32
  let v8 : BitVec 32 := Scalar.addi v7 c256_i32
  let c8_i32 : BitVec 32 := 8#32
  let v9 : BitVec 32 := Scalar.subi v8 c8_i32
  v9
def k0_off2 (i : grid0.Coords) (c256_i32 : BitVec 32) : Fin 3 → Nat :=
  let c0_4 : Index := 0#32
  let arg1 : BitVec 32 := BitVec.ofNat 32 (i 1).val
  let c1024_i32 : BitVec 32 := 1024#32
  let v7 : BitVec 32 := Scalar.muli arg1 c1024_i32
  let v8 : BitVec 32 := Scalar.addi v7 c256_i32
  let c8_i32 : BitVec 32 := 8#32
  let v9 : BitVec 32 := Scalar.subi v8 c8_i32
  let v10 : BitVec 32 := v9
  let v11 : Index := Scalar.indexCast v10
  let c0_5 : Index := 0#32
  ![0, v11.toNat, 0]
def k0_mult3 (i : grid0.Coords) : BitVec 32 :=
  let arg1 : BitVec 32 := BitVec.ofNat 32 (i 1).val
  let c1024_i32_6 : BitVec 32 := 1024#32
  let v14 : BitVec 32 := Scalar.muli arg1 c1024_i32_6
  let c512_i32 : BitVec 32 := 512#32
  let v15 : BitVec 32 := Scalar.addi v14 c512_i32
  let c8_i32_7 : BitVec 32 := 8#32
  let v16 : BitVec 32 := Scalar.subi v15 c8_i32_7
  v16
def k0_cond4 (i : grid0.Coords) : BitVec 1 :=
  let arg1 : BitVec 32 := BitVec.ofNat 32 (i 1).val
  let c5_i32_11 : BitVec 32 := 5#32
  let v24 : BitVec 1 := Scalar.cmpi .ne arg1 c5_i32_11
  let v25 : BitVec 32 := Scalar.extui v24
  let c0_i32_12 : BitVec 32 := 0#32
  let v26 : BitVec 1 := Scalar.cmpi .ne v25 c0_i32_12
  v26

def k0_mult4 (i : grid0.Coords) : BitVec 32 :=
  let arg1 : BitVec 32 := BitVec.ofNat 32 (i 1).val
  let c1024_i32_126 : BitVec 32 := 1024#32
  let v275 : BitVec 32 := Scalar.muli arg1 c1024_i32_126
  let c768_i32 : BitVec 32 := 768#32
  let v276 : BitVec 32 := Scalar.addi v275 c768_i32
  let c8_i32_127 : BitVec 32 := 8#32
  let v277 : BitVec 32 := Scalar.subi v276 c8_i32_127
  v277
def k0_off3 (i : grid0.Coords) : Fin 3 → Nat :=
  let c0_128 : Index := 0#32
  let arg1 : BitVec 32 := BitVec.ofNat 32 (i 1).val
  let c1024_i32_126 : BitVec 32 := 1024#32
  let v275 : BitVec 32 := Scalar.muli arg1 c1024_i32_126
  let c768_i32 : BitVec 32 := 768#32
  let v276 : BitVec 32 := Scalar.addi v275 c768_i32
  let c8_i32_127 : BitVec 32 := 8#32
  let v277 : BitVec 32 := Scalar.subi v276 c8_i32_127
  let v278 : BitVec 32 := v277
  let v279 : Index := Scalar.indexCast v278
  let c0_129 : Index := 0#32
  ![0, v279.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x6000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S80x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x960000 : Shape := ⟨2, ![32, 960000]⟩
abbrev S_ : Shape := ⟨0, ![]⟩
abbrev S32x1 : Shape := ⟨2, ![32, 1]⟩
abbrev S32x256 : Shape := ⟨2, ![32, 256]⟩
abbrev S32x960256 : Shape := ⟨2, ![32, 960256]⟩
abbrev S32x960512 : Shape := ⟨2, ![32, 960512]⟩
abbrev S6001 : Shape := ⟨1, ![6001]⟩
abbrev S6001x1 : Shape := ⟨2, ![6001, 1]⟩
abbrev S512 : Shape := ⟨1, ![512]⟩
abbrev S1x512 : Shape := ⟨2, ![1, 512]⟩
abbrev S6001x512 : Shape := ⟨2, ![6001, 512]⟩
abbrev S6001x512x1 : Shape := ⟨3, ![6001, 512, 1]⟩
abbrev S32x6001x512 : Shape := ⟨3, ![32, 6001, 512]⟩
abbrev S1x1x512 : Shape := ⟨3, ![1, 1, 512]⟩
abbrev S512x1 : Shape := ⟨2, ![512, 1]⟩
abbrev S257 : Shape := ⟨1, ![257]⟩
abbrev S1x257 : Shape := ⟨2, ![1, 257]⟩
abbrev S512x257 : Shape := ⟨2, ![512, 257]⟩
abbrev S32x6001x257 : Shape := ⟨3, ![32, 6001, 257]⟩
abbrev S256 : Shape := ⟨1, ![256]⟩
abbrev S1 : Shape := ⟨1, ![1]⟩
abbrev S81 : Shape := ⟨1, ![81]⟩
abbrev S82 : Shape := ⟨1, ![82]⟩
abbrev S1x82 : Shape := ⟨2, ![1, 82]⟩
abbrev S257x1 : Shape := ⟨2, ![257, 1]⟩
abbrev S257x82 : Shape := ⟨2, ![257, 82]⟩
abbrev S257x80 : Shape := ⟨2, ![257, 80]⟩
abbrev S80 : Shape := ⟨1, ![80]⟩
abbrev S1x80 : Shape := ⟨2, ![1, 80]⟩
abbrev S80x32x6001 : Shape := ⟨3, ![80, 32, 6001]⟩
abbrev S32x80x6001 : Shape := ⟨3, ![32, 80, 6001]⟩
abbrev S6001x32x80 : Shape := ⟨3, ![6001, 32, 80]⟩
abbrev S1x32x80 : Shape := ⟨3, ![1, 32, 80]⟩
abbrev S32x80 : Shape := ⟨2, ![32, 80]⟩
abbrev S6000x32x80 : Shape := ⟨3, ![6000, 32, 80]⟩

abbrev nBuf : Space → Nat
  | .hbm => 221
  | .vmem => 0
  | .smem => 0
  | _ => 0

abbrev hbmTy0_0 (i : Nat) : BufTy := match i % 128 with
  | 0 => ⟨S32x960000, .f32⟩
  | 1 => ⟨S_, .i32⟩
  | 2 => ⟨S32x1, .f32⟩
  | 3 => ⟨S32x256, .f32⟩
  | 4 => ⟨S32x256, .f32⟩
  | 5 => ⟨S32x960256, .f32⟩
  | 6 => ⟨S32x1, .f32⟩
  | 7 => ⟨S32x256, .f32⟩
  | 8 => ⟨S32x256, .f32⟩
  | 9 => ⟨S32x960512, .f32⟩
  | 10 => ⟨S6001, .i32⟩
  | 11 => ⟨S6001x1, .i32⟩
  | 12 => ⟨S_, .i32⟩
  | 13 => ⟨S6001x1, .i32⟩
  | 14 => ⟨S6001x1, .i32⟩
  | 15 => ⟨S512, .i32⟩
  | 16 => ⟨S1x512, .i32⟩
  | 17 => ⟨S6001x512, .i32⟩
  | 18 => ⟨S6001x512, .i32⟩
  | 19 => ⟨S6001x512, .i32⟩
  | 20 => ⟨S_, .i32⟩
  | 21 => ⟨S6001x512, .i32⟩
  | 22 => ⟨S6001x512, .i1⟩
  | 23 => ⟨S_, .i32⟩
  | 24 => ⟨S6001x512, .i32⟩
  | 25 => ⟨S6001x512, .i32⟩
  | 26 => ⟨S6001x512, .i32⟩
  | 27 => ⟨S6001x512x1, .i32⟩
  | 28 => ⟨S32x6001x512, .f32⟩
  | 29 => ⟨S512, .i32⟩
  | 30 => ⟨S512, .f32⟩
  | 31 => ⟨S_, .f32⟩
  | 32 => ⟨S512, .f32⟩
  | 33 => ⟨S512, .f32⟩
  | 34 => ⟨S_, .f32⟩
  | 35 => ⟨S512, .f32⟩
  | 36 => ⟨S512, .f32⟩
  | 37 => ⟨S512, .f32⟩
  | 38 => ⟨S_, .f32⟩
  | 39 => ⟨S512, .f32⟩
  | 40 => ⟨S512, .f32⟩
  | 41 => ⟨S_, .f32⟩
  | 42 => ⟨S512, .f32⟩
  | 43 => ⟨S512, .f32⟩
  | 44 => ⟨S512, .f32⟩
  | 45 => ⟨S1x1x512, .f32⟩
  | 46 => ⟨S32x6001x512, .f32⟩
  | 47 => ⟨S32x6001x512, .f32⟩
  | 48 => ⟨S512, .i32⟩
  | 49 => ⟨S512x1, .i32⟩
  | 50 => ⟨S512x1, .f32⟩
  | 51 => ⟨S_, .f32⟩
  | 52 => ⟨S512x1, .f32⟩
  | 53 => ⟨S512x1, .f32⟩
  | 54 => ⟨S257, .i32⟩
  | 55 => ⟨S1x257, .i32⟩
  | 56 => ⟨S1x257, .f32⟩
  | 57 => ⟨S512x257, .f32⟩
  | 58 => ⟨S512x257, .f32⟩
  | 59 => ⟨S512x257, .f32⟩
  | 60 => ⟨S_, .f32⟩
  | 61 => ⟨S512x257, .f32⟩
  | 62 => ⟨S512x257, .f32⟩
  | 63 => ⟨S512x257, .f32⟩
  | 64 => ⟨S32x6001x257, .f32⟩
  | 65 => ⟨S512x257, .f32⟩
  | 66 => ⟨S32x6001x257, .f32⟩
  | 67 => ⟨S32x6001x257, .f32⟩
  | 68 => ⟨S32x6001x257, .f32⟩
  | 69 => ⟨S32x6001x257, .f32⟩
  | 70 => ⟨S32x6001x257, .f32⟩
  | 71 => ⟨S32x6001x257, .f32⟩
  | 72 => ⟨S32x6001x257, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S256, .f32⟩
  | 81 => ⟨S_, .f32⟩
  | 82 => ⟨S256, .f32⟩
  | 83 => ⟨S256, .f32⟩
  | 84 => ⟨S1, .f32⟩
  | 85 => ⟨S_, .f32⟩
  | 86 => ⟨S256, .f32⟩
  | 87 => ⟨S256, .f32⟩
  | 88 => ⟨S256, .f32⟩
  | 89 => ⟨S256, .f32⟩
  | 90 => ⟨S1, .f32⟩
  | 91 => ⟨S256, .f32⟩
  | 92 => ⟨S256, .f32⟩
  | 93 => ⟨S256, .f32⟩
  | 94 => ⟨S1, .f32⟩
  | 95 => ⟨S257, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S81, .f32⟩
  | 112 => ⟨S_, .f32⟩
  | 113 => ⟨S81, .f32⟩
  | 114 => ⟨S81, .f32⟩
  | 115 => ⟨S1, .f32⟩
  | 116 => ⟨S_, .f32⟩
  | 117 => ⟨S81, .f32⟩
  | 118 => ⟨S81, .f32⟩
  | 119 => ⟨S81, .f32⟩
  | 120 => ⟨S81, .f32⟩
  | 121 => ⟨S1, .f32⟩
  | 122 => ⟨S81, .f32⟩
  | 123 => ⟨S81, .f32⟩
  | 124 => ⟨S81, .f32⟩
  | 125 => ⟨S1, .f32⟩
  | 126 => ⟨S82, .f32⟩
  | 127 => ⟨S_, .f32⟩
  | _ => ⟨S32x960000, .f32⟩

abbrev hbmTy0_1 (i : Nat) : BufTy := match i % 128 with
  | 0 => ⟨S82, .f32⟩
  | 1 => ⟨S82, .f32⟩
  | 2 => ⟨S_, .f32⟩
  | 3 => ⟨S82, .f32⟩
  | 4 => ⟨S82, .f32⟩
  | 5 => ⟨S_, .f32⟩
  | 6 => ⟨S82, .f32⟩
  | 7 => ⟨S82, .f32⟩
  | 8 => ⟨S_, .f32⟩
  | 9 => ⟨S82, .f32⟩
  | 10 => ⟨S82, .f32⟩
  | 11 => ⟨S81, .f32⟩
  | 12 => ⟨S81, .f32⟩
  | 13 => ⟨S81, .f32⟩
  | 14 => ⟨S1x82, .f32⟩
  | 15 => ⟨S257x1, .f32⟩
  | 16 => ⟨S257x82, .f32⟩
  | 17 => ⟨S257x82, .f32⟩
  | 18 => ⟨S257x82, .f32⟩
  | 19 => ⟨S257x80, .f32⟩
  | 20 => ⟨S257x80, .f32⟩
  | 21 => ⟨S80, .f32⟩
  | 22 => ⟨S1x80, .f32⟩
  | 23 => ⟨S257x80, .f32⟩
  | 24 => ⟨S257x80, .f32⟩
  | 25 => ⟨S257x80, .f32⟩
  | 26 => ⟨S80, .f32⟩
  | 27 => ⟨S1x80, .f32⟩
  | 28 => ⟨S257x80, .f32⟩
  | 29 => ⟨S257x80, .f32⟩
  | 30 => ⟨S257x80, .f32⟩
  | 31 => ⟨S_, .f32⟩
  | 32 => ⟨S_, .f32⟩
  | 33 => ⟨S257x80, .f32⟩
  | 34 => ⟨S257x80, .f32⟩
  | 35 => ⟨S80x32x6001, .f32⟩
  | 36 => ⟨S32x80x6001, .f32⟩
  | 37 => ⟨S_, .f32⟩
  | 38 => ⟨S32x80x6001, .f32⟩
  | 39 => ⟨S32x80x6001, .f32⟩
  | 40 => ⟨S32x80x6001, .f32⟩
  | 41 => ⟨S32x80x6001, .f32⟩
  | 42 => ⟨S6001x32x80, .f32⟩
  | 43 => ⟨S1x32x80, .f32⟩
  | 44 => ⟨S32x80, .f32⟩
  | 45 => ⟨S6000x32x80, .f32⟩
  | 46 => ⟨S_, .f32⟩
  | 47 => ⟨S6000x32x80, .f32⟩
  | 48 => ⟨S_, .i32⟩
  | 49 => ⟨S6000x32x80, .f32⟩
  | 50 => ⟨S_, .i32⟩
  | 51 => ⟨S32x80, .f32⟩
  | 52 => ⟨S6000x32x80, .f32⟩
  | 53 => ⟨S_, .i32⟩
  | 54 => ⟨S_, .i1⟩
  | 55 => ⟨S_, .i32⟩
  | 56 => ⟨S_, .i32⟩
  | 57 => ⟨S1x32x80, .f32⟩
  | 58 => ⟨S32x80, .f32⟩
  | 59 => ⟨S_, .f32⟩
  | 60 => ⟨S_, .f32⟩
  | 61 => ⟨S_, .f32⟩
  | 62 => ⟨S32x80, .f32⟩
  | 63 => ⟨S32x80, .f32⟩
  | 64 => ⟨S_, .f32⟩
  | 65 => ⟨S32x80, .f32⟩
  | 66 => ⟨S32x80, .f32⟩
  | 67 => ⟨S32x80, .f32⟩
  | 68 => ⟨S1x32x80, .f32⟩
  | 69 => ⟨S_, .i32⟩
  | 70 => ⟨S_, .i32⟩
  | 71 => ⟨S6000x32x80, .f32⟩
  | 72 => ⟨S_, .i32⟩
  | 73 => ⟨S_, .i32⟩
  | 74 => ⟨S1x32x80, .f32⟩
  | 75 => ⟨S6001x32x80, .f32⟩
  | 76 => ⟨S32x80x6001, .f32⟩
  | 77 => ⟨S_, .f32⟩
  | 78 => ⟨S32x80x6001, .f32⟩
  | 79 => ⟨S32x80x6001, .f32⟩
  | 80 => ⟨S_, .f32⟩
  | 81 => ⟨S32x80x6001, .f32⟩
  | 82 => ⟨S32x80x6001, .f32⟩
  | 83 => ⟨S32x80x6001, .f32⟩
  | 84 => ⟨S_, .f32⟩
  | 85 => ⟨S32x80x6001, .f32⟩
  | 86 => ⟨S32x80x6001, .f32⟩
  | 87 => ⟨S_, .f32⟩
  | 88 => ⟨S32x80x6001, .f32⟩
  | 89 => ⟨S32x80x6001, .f32⟩
  | 90 => ⟨S_, .f32⟩
  | 91 => ⟨S32x80x6001, .f32⟩
  | 92 => ⟨S32x80x6001, .f32⟩
  | _ => ⟨S32x960000, .f32⟩

abbrev hbmTy (i : Nat) : BufTy := match i / 128 with
  | 0 => hbmTy0_0 i
  | 1 => hbmTy0_1 i
  | _ => ⟨S32x960000, .f32⟩

abbrev bufTy : (tb : Table) → Fin (tcTables nBuf tb) → BufTy
  | .hbm, ⟨i, _⟩ => hbmTy i
  | _, _ => ⟨S32x960000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_cst_9 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_cst : Ref sig .tc := ⟨.hbm, 78, rfl⟩
abbrev main_call1_v3 : Ref sig .tc := ⟨.hbm, 79, rfl⟩
abbrev main_call1_v4 : Ref sig .tc := ⟨.hbm, 80, rfl⟩
abbrev main_call1_cst_0 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_v15 : Ref sig .tc := ⟨.hbm, 93, rfl⟩
abbrev main_call1_v16 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_cst_11 : Ref sig .tc := ⟨.hbm, 98, rfl⟩
abbrev main_v57 : Ref sig .tc := ⟨.hbm, 99, rfl⟩
abbrev main_cst_12 : Ref sig .tc := ⟨.hbm, 100, rfl⟩
abbrev main_v58 : Ref sig .tc := ⟨.hbm, 101, rfl⟩
abbrev main_cst_13 : Ref sig .tc := ⟨.hbm, 102, rfl⟩
abbrev main_v59 : Ref sig .tc := ⟨.hbm, 103, rfl⟩
abbrev main_cst_14 : Ref sig .tc := ⟨.hbm, 104, rfl⟩
abbrev main_v60 : Ref sig .tc := ⟨.hbm, 105, rfl⟩
abbrev main_cst_15 : Ref sig .tc := ⟨.hbm, 106, rfl⟩
abbrev main_v61 : Ref sig .tc := ⟨.hbm, 107, rfl⟩
abbrev main_call2_v0 : Ref sig .tc := ⟨.hbm, 108, rfl⟩
abbrev main_call2_cst : Ref sig .tc := ⟨.hbm, 109, rfl⟩
abbrev main_call2_v1 : Ref sig .tc := ⟨.hbm, 110, rfl⟩
abbrev main_call2_v2 : Ref sig .tc := ⟨.hbm, 111, rfl⟩
abbrev main_call2_cst_0 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_cst_1 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_v62 : Ref sig .tc := ⟨.hbm, 126, rfl⟩
abbrev main_cst_16 : Ref sig .tc := ⟨.hbm, 127, rfl⟩
abbrev main_v63 : Ref sig .tc := ⟨.hbm, 128, rfl⟩
abbrev main_v64 : Ref sig .tc := ⟨.hbm, 129, rfl⟩
abbrev main_cst_17 : Ref sig .tc := ⟨.hbm, 130, rfl⟩
abbrev main_v65 : Ref sig .tc := ⟨.hbm, 131, rfl⟩
abbrev main_v66 : Ref sig .tc := ⟨.hbm, 132, rfl⟩
abbrev main_cst_18 : Ref sig .tc := ⟨.hbm, 133, rfl⟩
abbrev main_v67 : Ref sig .tc := ⟨.hbm, 134, rfl⟩
abbrev main_v68 : Ref sig .tc := ⟨.hbm, 135, rfl⟩
abbrev main_cst_19 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_20 : Ref sig .tc := ⟨.hbm, 159, rfl⟩
abbrev main_call3_v0 : Ref sig .tc := ⟨.hbm, 160, rfl⟩
abbrev main_call3_v1 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_21 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_22 : Ref sig .tc := ⟨.hbm, 174, rfl⟩
abbrev main_v102 : Ref sig .tc := ⟨.hbm, 175, rfl⟩
abbrev main_c_23 : Ref sig .tc := ⟨.hbm, 176, rfl⟩
abbrev main_v103_0 : Ref sig .tc := ⟨.hbm, 177, rfl⟩
abbrev main_v103_1 : Ref sig .tc := ⟨.hbm, 178, rfl⟩
abbrev main_v103_2 : Ref sig .tc := ⟨.hbm, 179, rfl⟩
abbrev main_v103_3 : Ref sig .tc := ⟨.hbm, 180, rfl⟩
abbrev main_while0c_c_32 : Ref sig .tc := ⟨.hbm, 181, rfl⟩
abbrev main_while0c_v118 : Ref sig .tc := ⟨.hbm, 182, rfl⟩
abbrev main_while0b_call4_c : Ref sig .tc := ⟨.hbm, 183, rfl⟩
abbrev main_while0b_call4_c_0 : Ref sig .tc := ⟨.hbm, 184, rfl⟩
abbrev main_while0b_call4_v0 : Ref sig .tc := ⟨.hbm, 185, rfl⟩
abbrev main_while0b_v118 : Ref sig .tc := ⟨.hbm, 186, rfl⟩
abbrev main_while0b_cst_32 : Ref sig .tc := ⟨.hbm, 187, rfl⟩
abbrev main_while0b_cst_33 : Ref sig .tc := ⟨.hbm, 188, rfl⟩
abbrev main_while0b_v119 : Ref sig .tc := ⟨.hbm, 189, rfl⟩
abbrev main_while0b_v120 : Ref sig .tc := ⟨.hbm, 190, rfl⟩
abbrev main_while0b_v121 : Ref sig .tc := ⟨.hbm, 191, rfl⟩
abbrev main_while0b_cst_34 : Ref sig .tc := ⟨.hbm, 192, rfl⟩
abbrev main_while0b_v122 : Ref sig .tc := ⟨.hbm, 193, rfl⟩
abbrev main_while0b_v123 : Ref sig .tc := ⟨.hbm, 194, rfl⟩
abbrev main_while0b_v124 : Ref sig .tc := ⟨.hbm, 195, rfl⟩
abbrev main_while0b_call5_v0 : Ref sig .tc := ⟨.hbm, 196, rfl⟩
abbrev main_while0b_call5_c : Ref sig .tc := ⟨.hbm, 197, rfl⟩
abbrev main_while0b_call5_c_0 : Ref sig .tc := ⟨.hbm, 198, rfl⟩
abbrev main_while0b_v125 : Ref sig .tc := ⟨.hbm, 199, rfl⟩
abbrev main_while0b_c_35 : Ref sig .tc := ⟨.hbm, 200, rfl⟩
abbrev main_while0b_v126 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_cst_24 : Ref sig .tc := ⟨.hbm, 205, rfl⟩
abbrev main_v107 : Ref sig .tc := ⟨.hbm, 206, rfl⟩
abbrev main_v108 : Ref sig .tc := ⟨.hbm, 207, rfl⟩
abbrev main_cst_25 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_cst_26 : Ref sig .tc := ⟨.hbm, 212, rfl⟩
abbrev main_v112 : Ref sig .tc := ⟨.hbm, 213, rfl⟩
abbrev main_v113 : Ref sig .tc := ⟨.hbm, 214, rfl⟩
abbrev main_cst_27 : Ref sig .tc := ⟨.hbm, 215, rfl⟩
abbrev main_v114 : Ref sig .tc := ⟨.hbm, 216, rfl⟩
abbrev main_v115 : Ref sig .tc := ⟨.hbm, 217, rfl⟩
abbrev main_cst_28 : Ref sig .tc := ⟨.hbm, 218, rfl⟩
abbrev main_v116 : Ref sig .tc := ⟨.hbm, 219, rfl⟩
abbrev main_v117 : Ref sig .tc := ⟨.hbm, 220, rfl⟩

abbrev nD : Nat := 1
abbrev τ : Topo := Topo.v7x

variable {F : FTy → Type} [FloatOps F]

abbrev main_while0_count : Scf.Loop 32 := ⟨0#32, 6000#32, 1#32⟩
-- ==== Proof.Block.lean ====
/- WHAT ONE GRID POINT COMPUTES, over the extended reals. A point handles 1024 frames of one signal, as four tiles of 256
   frames. Per tile: the windowed Fourier sums of the tile's frames (`dft4`), the mel energies plus a constant (`mel`),
   the running average of the mel energies (`smooth`, started from a column), and the compressed ratio (`pcenT`). The
   printed payloads are these functions (`pay12_eq` …). -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe

/-- Column `f` of the Fourier sums of frame `i` of a tile: four runs of 160 samples, the rows `6 + i … 9 + i` of the
    tile's samples against the four slices of the table. -/
def dft4 (V : FVec Ideal S272x160 .f32) (A0 A1 A2 A3 : FVec Ideal S160x512 .bf16) : FVec Ideal S256x512 .f32 := fun j =>
  (((∑ l : Fin 160, V (ix2 ⟨6 + (j 0).val, by have : (j 0).val < 256 := (j 0).isLt; omega⟩ l) * A0 (ix2 l (j 1)))
    + ∑ l : Fin 160, V (ix2 ⟨7 + (j 0).val, by have : (j 0).val < 256 := (j 0).isLt; omega⟩ l) * A1 (ix2 l (j 1)))
    + ∑ l : Fin 160, V (ix2 ⟨8 + (j 0).val, by have : (j 0).val < 256 := (j 0).isLt; omega⟩ l) * A2 (ix2 l (j 1)))
    + ∑ l : Fin 160, V (ix2 ⟨9 + (j 0).val, by have : (j 0).val < 256 := (j 0).isLt; omega⟩ l) * A3 (ix2 l (j 1))

/-- The mel energies of a tile from its Fourier sums `D` (cosine columns, then sine columns), plus the constant that keeps
    the logarithm finite. -/
def mel (D : FVec Ideal S256x512 .f32) (fbt : FVec Ideal S80x256 .f32) : FVec Ideal S80x256 .f32 := fun j =>
  (∑ k : Fin 256, fbt (ix2 (j 0) k) *
      (D (ix2 (j 1) ⟨k.val, by omega⟩) * D (ix2 (j 1) ⟨k.val, by omega⟩)
        + D (ix2 (j 1) ⟨256 + k.val, by omega⟩) * D (ix2 (j 1) ⟨256 + k.val, by omega⟩)))
    + Ideal.ofBits .f32 0x3089705F#32

/-- The running average over a tile: the energies `X` against the table of weights, and the incoming average `s` decayed. -/
def smooth (X : FVec Ideal S80x256 .f32) (lt : FVec Ideal S256x256 .f32) (dt : FVec Ideal S1x256 .f32)
    (s : FVec Ideal S80x1 .f32) : FVec Ideal S80x256 .f32 := fun j =>
  (∑ k : Fin 256, X (ix2 (j 0) k) * lt (ix2 k (j 1))) + s (ix2 (j 0) 0) * dt (ix2 0 (j 1))

/-- A tile's last column. -/
def lastCol (S : FVec Ideal S80x256 .f32) : FVec Ideal S80x1 .f32 := fun j => S (ix2 (j 0) ⟨255, by decide⟩)

/-- A tile's first column. -/
def firstCol (S : FVec Ideal S80x256 .f32) : FVec Ideal S80x1 .f32 := fun j => S (ix2 (j 0) ⟨0, by decide⟩)

/-- The compressed ratio of one energy `x` to its running average `s`. -/
def pcen1 (x s : EReal) : EReal :=
  Ideal.sqrt (x * Ideal.exp (Ideal.ofBits .f32 0xBF7AE148#32 * Ideal.log (s + Ideal.ofBits .f32 0x358637BD#32))
      + Ideal.ofBits .f32 0x40000000#32) - Ideal.ofBits .f32 0x3FB504F3#32

/-- The same for a whole tile, as the tile is stored. -/
def pcenT (X S : FVec Ideal S80x256 .f32) : FVec Ideal S1x80x256 .f32 := fun j => pcen1 (X (ix2 (j 1) (j 2))) (S (ix2 (j 1) (j 2)))

/-! ## The printed payloads -/

theorem pay12_eq (V : FVec Ideal S272x160 .f32) (A0 A1 A2 A3 : FVec Ideal S160x512 .bf16) :
    k0_pay12 V (k0_pay11 V) A0 A1 A2 A3 = dft4 V A0 A1 A2 A3 := by
  funext j; idx_vars j; pointwise [k0_pay12, k0_pay11, dft4]

theorem pay15_eq (V : FVec Ideal S272x160 .f32) (A0 A1 A2 A3 : FVec Ideal S160x512 .bf16) :
    k0_pay15 (k0_pay13 V A0 A1 A2) (k0_pay14 V) A3 = dft4 V A0 A1 A2 A3 := by
  funext j; idx_vars j; pointwise [k0_pay15, k0_pay13, k0_pay14, dft4]

theorem pay16_eq (V : FVec Ideal S272x160 .f32) (A0 A1 A2 A3 : FVec Ideal S160x512 .bf16) :
    k0_pay16 V A0 A1 A2 A3 = dft4 V A0 A1 A2 A3 := by
  funext j; idx_vars j; pointwise [k0_pay16, dft4]

theorem pay19_eq (V : FVec Ideal S272x160 .f32) (A0 A1 A2 A3 : FVec Ideal S160x512 .bf16) :
    k0_pay19 V (k0_pay17 V A0 A1) (k0_pay18 V) A2 A3 = dft4 V A0 A1 A2 A3 := by
  funext j; idx_vars j; pointwise [k0_pay19, k0_pay17, k0_pay18, dft4]

theorem pay20_eq (D : FVec Ideal S256x512 .f32) (fbt : FVec Ideal S80x256 .f32) : k0_pay20 D fbt = mel D fbt := by
  funext j; idx_vars j; pointwise [k0_pay20, mel]

theorem pay21_eq (D : FVec Ideal S256x512 .f32) (fbt : FVec Ideal S80x256 .f32) : k0_pay21 D fbt = mel D fbt := by
  funext j; idx_vars j; pointwise [k0_pay21, mel]

theorem pay24_eq (D : FVec Ideal S256x512 .f32) (fbt : FVec Ideal S80x256 .f32) :
    k0_pay24 (k0_pay22 D) (k0_pay23 fbt) (constant S80x256 .f32 0x00000000#32) = mel D fbt := by
  funext j; idx_vars j; pointwise [k0_pay24, k0_pay22, k0_pay23, mel]

theorem pay25_eq (D : FVec Ideal S256x512 .f32) (fbt : FVec Ideal S80x256 .f32) : k0_pay25 D fbt = mel D fbt := by
  funext j; idx_vars j; pointwise [k0_pay25, mel]

theorem pay26_eq (X : FVec Ideal S80x256 .f32) : k0_pay26 X = firstCol X := by
  funext j; idx_vars j; pointwise [k0_pay26, firstCol]

theorem pay1_eq (s : FVec Ideal S80x1 .f32) : k0_pay1 s = s := by
  funext j; idx_vars j; pointwise [k0_pay1]

theorem pay29_eq (D : FVec Ideal S256x512 .f32) (fbt : FVec Ideal S80x256 .f32) (lt : FVec Ideal S256x256 .f32) :
    k0_pay29 (k0_pay22 D) (k0_pay23 fbt) (constant S80x256 .f32 0x00000000#32) lt = k0_pay28 (mel D fbt) lt := by
  unfold k0_pay29; rw [pay24_eq]; rfl

theorem pay30_eq (D : FVec Ideal S256x512 .f32) (fbt : FVec Ideal S80x256 .f32) (lt : FVec Ideal S256x256 .f32) :
    k0_pay30 D fbt lt = k0_pay28 (mel D fbt) lt := by
  unfold k0_pay30; rw [pay25_eq]; rfl

theorem pay27_eq (X : FVec Ideal S80x256 .f32) (lt : FVec Ideal S256x256 .f32) : k0_pay27 X lt = k0_pay28 X lt := rfl

theorem pay32_eq (X : FVec Ideal S80x256 .f32) (lt : FVec Ideal S256x256 .f32) (dt : FVec Ideal S1x256 .f32)
    (s : FVec Ideal S80x1 .f32) : k0_pay32 (k0_pay28 X lt) (k0_pay31 s dt) = smooth X lt dt s := by
  funext j; idx_vars j; pointwise [k0_pay32, k0_pay28, k0_pay31, smooth]

theorem pay37_eq (X : FVec Ideal S80x256 .f32) (lt : FVec Ideal S256x256 .f32) (dt : FVec Ideal S1x256 .f32)
    (s : FVec Ideal S80x1 .f32) : k0_pay37 (k0_pay28 X lt) s dt = smooth X lt dt s := by
  funext j; idx_vars j; pointwise [k0_pay37, k0_pay28, smooth]

theorem pay34_eq (X Y : FVec Ideal S80x256 .f32) (lt : FVec Ideal S256x256 .f32) (dt : FVec Ideal S1x256 .f32)
    (s : FVec Ideal S80x1 .f32) :
    k0_pay34 (k0_pay28 X lt) (k0_pay28 Y lt) (k0_pay31 s dt) dt = smooth Y lt dt (lastCol (smooth X lt dt s)) := by
  unfold k0_pay34; rw [pay32_eq]
  funext j; idx_vars j; pointwise [k0_pay28]; rfl

theorem pay35_eq (X Y : FVec Ideal S80x256 .f32) (lt : FVec Ideal S256x256 .f32) (dt : FVec Ideal S1x256 .f32)
    (s : FVec Ideal S80x1 .f32) :
    k0_pay35 (k0_pay28 X lt) (k0_pay28 Y lt) (k0_pay31 s dt) dt = lastCol (smooth Y lt dt (lastCol (smooth X lt dt s))) := by
  unfold k0_pay35; rw [pay34_eq]
  funext j; idx_vars j; pointwise [lastCol]

theorem pay39_eq (X Y : FVec Ideal S80x256 .f32) (lt : FVec Ideal S256x256 .f32) (dt : FVec Ideal S1x256 .f32)
    (s : FVec Ideal S80x1 .f32) :
    k0_pay39 (k0_pay28 X lt) (k0_pay28 Y lt) s dt dt = smooth Y lt dt (lastCol (smooth X lt dt s)) := by
  unfold k0_pay39; rw [pay37_eq]
  funext j; idx_vars j; pointwise [k0_pay28]; rfl

theorem pay40_eq (X Y : FVec Ideal S80x256 .f32) (lt : FVec Ideal S256x256 .f32) (dt : FVec Ideal S1x256 .f32)
    (s : FVec Ideal S80x1 .f32) :
    k0_pay40 (k0_pay28 X lt) (k0_pay28 Y lt) s dt dt = lastCol (smooth Y lt dt (lastCol (smooth X lt dt s))) := by
  unfold k0_pay40; rw [pay39_eq]
  funext j; idx_vars j; pointwise [lastCol]

theorem pay33_eq (X : FVec Ideal S80x256 .f32) (lt : FVec Ideal S256x256 .f32) (dt : FVec Ideal S1x256 .f32)
    (s : FVec Ideal S80x1 .f32) : k0_pay33 X (k0_pay28 X lt) (k0_pay31 s dt) = pcenT X (smooth X lt dt s) := by
  unfold k0_pay33; rw [pay32_eq]
  funext j; idx_vars j; pointwise [pcenT, pcen1]

theorem pay36_eq (X Y : FVec Ideal S80x256 .f32) (lt : FVec Ideal S256x256 .f32) (dt : FVec Ideal S1x256 .f32)
    (s : FVec Ideal S80x1 .f32) : k0_pay36 Y (k0_pay28 X lt) (k0_pay28 Y lt) (k0_pay31 s dt) dt
      = pcenT Y (smooth Y lt dt (lastCol (smooth X lt dt s))) := by
  unfold k0_pay36; rw [pay34_eq]
  funext j; idx_vars j; pointwise [pcenT, pcen1]

theorem pay38_eq (X : FVec Ideal S80x256 .f32) (lt : FVec Ideal S256x256 .f32) (dt : FVec Ideal S1x256 .f32)
    (s : FVec Ideal S80x1 .f32) : k0_pay38 X (k0_pay28 X lt) s dt = pcenT X (smooth X lt dt s) := by
  unfold k0_pay38; rw [pay37_eq]
  funext j; idx_vars j; pointwise [pcenT, pcen1]

theorem pay41_eq (X Y : FVec Ideal S80x256 .f32) (lt : FVec Ideal S256x256 .f32) (dt : FVec Ideal S1x256 .f32)
    (s : FVec Ideal S80x1 .f32) : k0_pay41 Y (k0_pay28 X lt) (k0_pay28 Y lt) s dt dt
      = pcenT Y (smooth Y lt dt (lastCol (smooth X lt dt s))) := by
  unfold k0_pay41; rw [pay39_eq]
  funext j; idx_vars j; pointwise [pcenT, pcen1]

end Cert.KernelIdeal.Block

end
-- ==== Proof.BlockOut.lean ====
/- A GRID POINT'S BLOCK. The point of chunk `q` of a signal reads its samples through four windows of 272 rows, 256 rows
   apart (`winV`), computes each window's mel energies (`mels`), and writes the compressed ratios of 1024 frames
   (`blockOut`); it carries the running average of its last frame on (`carry`). -/
module

public import proofs.«01_k».proof.Proof.Block
public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.ShloMosaic.TcCoe

/-- Row `r` of a signal's samples in rows of 160, with eight rows of the first edge array put before them, its other
    eight rows after them, and zeros from there on. -/
def sigRow (x0 : FVec Ideal S1x6000x160 .f32) (x1 : FVec Ideal S1x16x160 .f32) (r : ℕ) (l : Fin 160) : EReal :=
  if h : r < 8 then x1 (ix3 0 ⟨r, by omega⟩ l)
  else if h : r < 6008 then x0 (ix3 0 ⟨r - 8, by omega⟩ l)
  else if h : r < 6016 then x1 (ix3 0 ⟨r - 6000, by omega⟩ l)
  else 0

/-- The 272 rows from row `b`. -/
def winV (x0 : FVec Ideal S1x6000x160 .f32) (x1 : FVec Ideal S1x16x160 .f32) (b : ℕ) : FVec Ideal S272x160 .f32 :=
  fun j => sigRow x0 x1 (b + (j 0).val) (j 1)

/-- Rows `160 p … 160 p + 159` of the table of windowed cosines and sines. -/
def aSl (x2 : FVec Ideal S640x512 .bf16) (p : Fin 4) : FVec Ideal S160x512 .bf16 :=
  fun j => x2 (ix2 ⟨160 * p.val + (j 0).val, by have : (j 0).val < 160 := (j 0).isLt; omega⟩ (j 1))

/-- The mel energies of the 256 frames whose window starts at row `b`. -/
def mels (x0 : FVec Ideal S1x6000x160 .f32) (x1 : FVec Ideal S1x16x160 .f32) (x2 : FVec Ideal S640x512 .bf16)
    (x3 : FVec Ideal S80x256 .f32) (b : ℕ) : FVec Ideal S80x256 .f32 :=
  mel (dft4 (winV x0 x1 b) (aSl x2 0) (aSl x2 1) (aSl x2 2) (aSl x2 3)) x3

/-- The running average that tile `u` of the tiles `X` starts from, when the first starts from `s`. -/
def carry (X : ℕ → FVec Ideal S80x256 .f32) (lt : FVec Ideal S256x256 .f32) (dt : FVec Ideal S1x256 .f32)
    (s : FVec Ideal S80x1 .f32) : ℕ → FVec Ideal S80x1 .f32
  | 0 => s
  | u + 1 => lastCol (smooth (X u) lt dt (carry X lt dt s u))

/-- The compressed ratios of four tiles side by side. -/
def blockOut (X : ℕ → FVec Ideal S80x256 .f32) (lt : FVec Ideal S256x256 .f32) (dt : FVec Ideal S1x256 .f32)
    (s : FVec Ideal S80x1 .f32) : FVec Ideal S1x80x1024 .f32 := fun j =>
  pcenT (X ((j 2).val / 256)) (smooth (X ((j 2).val / 256)) lt dt (carry X lt dt s ((j 2).val / 256)))
    (ix3 0 (j 1) ⟨(j 2).val % 256, Nat.mod_lt _ (by decide)⟩)

/-- The four tiles of chunk `q`. -/
def tiles (x0 : FVec Ideal S1x6000x160 .f32) (x1 : FVec Ideal S1x16x160 .f32) (x2 : FVec Ideal S640x512 .bf16)
    (x3 : FVec Ideal S80x256 .f32) (q : ℕ) : ℕ → FVec Ideal S80x256 .f32 := fun u => mels x0 x1 x2 x3 (1024 * q + 256 * u)

theorem dft4_win (V : FVec Ideal S272x160 .f32) (A0 A1 A2 A3 : FVec Ideal S160x512 .bf16) (x0 : FVec Ideal S1x6000x160 .f32)
    (x1 : FVec Ideal S1x16x160 .f32) (x2 : FVec Ideal S640x512 .bf16) (x3 : FVec Ideal S80x256 .f32) (q u : ℕ)
    (hV : ∀ (r : Fin 272) (l : Fin 160), V (ix2 r l) = sigRow x0 x1 (1024 * q + 256 * u + r.val) l)
    (h0 : A0 = aSl x2 0) (h1 : A1 = aSl x2 1) (h2 : A2 = aSl x2 2) (h3 : A3 = aSl x2 3) :
    mel (dft4 V A0 A1 A2 A3) x3 = tiles x0 x1 x2 x3 q u := by
  have e : V = winV x0 x1 (1024 * q + 256 * u) := by funext j; rw [eq_ix2 j]; exact hV _ _
  rw [e, h0, h1, h2, h3]; rfl

theorem ld_aSl0 (x2 : FVec Ideal S640x512 .bf16) (inb) :
    View.ld (Val := Elt Ideal) (e' := .bf16) x2 (Rect.unit (s := S640x512) ![0, 0] ![160, 512] inb) = aSl x2 0 := by
  funext j
  refine View.ld_unit_apply_of (Val := Elt Ideal) (e := .bf16) x2 _ _ inb j _ fun a => ?_
  fin_cases a <;> simp

theorem ld_aSl1 (x2 : FVec Ideal S640x512 .bf16) (inb) :
    View.ld (Val := Elt Ideal) (e' := .bf16) x2 (Rect.unit (s := S640x512) ![160, 0] ![160, 512] inb) = aSl x2 1 := by
  funext j
  refine View.ld_unit_apply_of (Val := Elt Ideal) (e := .bf16) x2 _ _ inb j _ fun a => ?_
  fin_cases a <;> simp

theorem ld_aSl2 (x2 : FVec Ideal S640x512 .bf16) (inb) :
    View.ld (Val := Elt Ideal) (e' := .bf16) x2 (Rect.unit (s := S640x512) ![320, 0] ![160, 512] inb) = aSl x2 2 := by
  funext j
  refine View.ld_unit_apply_of (Val := Elt Ideal) (e := .bf16) x2 _ _ inb j _ fun a => ?_
  fin_cases a <;> simp

theorem ld_aSl3 (x2 : FVec Ideal S640x512 .bf16) (inb) :
    View.ld (Val := Elt Ideal) (e' := .bf16) x2 (Rect.unit (s := S640x512) ![480, 0] ![160, 512] inb) = aSl x2 3 := by
  funext j
  refine View.ld_unit_apply_of (Val := Elt Ideal) (e := .bf16) x2 _ _ inb j _ fun a => ?_
  fin_cases a <;> simp

theorem dft4_tile (V : FVec Ideal S272x160 .f32) (x0 : FVec Ideal S1x6000x160 .f32)
    (x1 : FVec Ideal S1x16x160 .f32) (x2 : FVec Ideal S640x512 .bf16) (x3 : FVec Ideal S80x256 .f32) (q u : ℕ)
    (hV : ∀ (r : Fin 272) (l : Fin 160), V (ix2 r l) = sigRow x0 x1 (1024 * q + 256 * u + r.val) l) :
    mel (dft4 V (aSl x2 0) (aSl x2 1) (aSl x2 2) (aSl x2 3)) x3 = tiles x0 x1 x2 x3 q u :=
  dft4_win V _ _ _ _ x0 x1 x2 x3 q u hV rfl rfl rfl rfl

theorem off1_eq : ∀ i : grid0.Coords, 1 ≤ (i 1).val → k0_off1 i = ![0, 1024 * (i 1).val - 8, 0] := by decide +kernel

theorem chunk_pos : ∀ i : grid0.Coords, cond0_1 i → 1 ≤ (i 1).val := by decide +kernel

theorem chunk_zero : ∀ i : grid0.Coords, cond0_0 i → (i 1).val = 0 := by decide +kernel

theorem chunk_le : ∀ i : grid0.Coords, cond0_3 i → (i 1).val ≤ 4 := by decide +kernel

theorem chunk_last : ∀ i : grid0.Coords, cond0_2 i → (i 1).val = 5 := by decide +kernel

theorem sigRow_mid (x0 : FVec Ideal S1x6000x160 .f32) (x1 : FVec Ideal S1x16x160 .f32) (r : ℕ) (l : Fin 160) (k : Fin 6000)
    (h : r = 8 + k.val) : sigRow x0 x1 r l = x0 (ix3 0 k l) := by
  unfold sigRow
  rw [dif_neg (by omega), dif_pos (by omega)]
  exact congrArg x0 (congrArg (fun k => ix3 0 k l) (Fin.ext (by show r - 8 = _; omega)))

/-- A whole window of the samples, shifted by its start. -/
theorem row4 (Y : FVec Ideal S1x272x160 .f32) (r : Fin 272) (l : Fin 160) : k0_pay4 Y (ix2 r l) = Y (ix3 0 r l) := by
  pointwise [k0_pay4]
theorem row5 (Y : FVec Ideal S1x272x160 .f32) (r : Fin 272) (l : Fin 160) : k0_pay5 Y (ix2 r l) = Y (ix3 0 r l) := by
  pointwise [k0_pay5]
theorem row6 (Y : FVec Ideal S1x272x160 .f32) (r : Fin 272) (l : Fin 160) : k0_pay6 Y (ix2 r l) = Y (ix3 0 r l) := by
  pointwise [k0_pay6]
theorem row10 (Y : FVec Ideal S1x272x160 .f32) (r : Fin 272) (l : Fin 160) : k0_pay10 Y (ix2 r l) = Y (ix3 0 r l) := by
  pointwise [k0_pay10]

theorem ld_rows (x0 : FVec Ideal S1x6000x160 .f32) (x1 : FVec Ideal S1x16x160 .f32) (off : Fin 3 → ℕ) (b o : ℕ) (inb)
    (ho : off = ![0, o, 0]) (hb : b = 8 + o) (r : Fin 272) (l : Fin 160) :
    View.ld (Val := Elt Ideal) (e' := .f32) x0 (Rect.unit (s := S1x6000x160) off ![1, 272, 160] inb) (ix3 0 r l)
      = sigRow x0 x1 (b + r.val) l := by
  subst ho
  have hk : o + r.val < 6000 := by
    have := inb 1
    have hr := r.isLt
    simp at this
    omega
  rw [sigRow_mid x0 x1 _ l ⟨o + r.val, hk⟩ (by show _ = 8 + (o + r.val); omega)]
  refine View.ld_unit_apply_of (Val := Elt Ideal) (e := .f32) x0 _ _ inb (ix3 0 r l) (ix3 0 ⟨o + r.val, hk⟩ l) fun a => ?_
  fin_cases a <;> simp [ix3]

theorem off2_1 (i : grid0.Coords) : k0_off2 i 256#32 = ![0, 1024 * (i 1).val + 248, 0] := k0_off2_eq i 0

theorem off2_2 (i : grid0.Coords) : k0_off2 i 512#32 = ![0, 1024 * (i 1).val + 504, 0] := k0_off2_eq i 1

theorem row2 (Y : FVec Ideal S1x8x160 .f32) (x : S8x160.Idx) : k0_pay2 Y x = Y (ix3 0 (x 0) (x 1)) := by
  idx_vars x; pointwise [k0_pay2]
theorem row3 (Y : FVec Ideal S1x264x160 .f32) (x : S264x160.Idx) : k0_pay3 Y x = Y (ix3 0 (x 0) (x 1)) := by
  idx_vars x; pointwise [k0_pay3]
theorem row7 (Y : FVec Ideal S1x120x160 .f32) (x : S120x160.Idx) : k0_pay7 Y x = Y (ix3 0 (x 0) (x 1)) := by
  idx_vars x; pointwise [k0_pay7]
theorem row8 (Y : FVec Ideal S1x8x160 .f32) (x : S8x160.Idx) : k0_pay8 Y x = Y (ix3 0 (x 0) (x 1)) := by
  idx_vars x; pointwise [k0_pay8]
theorem pad9 (x : S144x160.Idx) : k0_pay9 (F := Ideal) x = 0 := by
  idx_vars x; pointwise [k0_pay9]

theorem sigRow_end (x0 : FVec Ideal S1x6000x160 .f32) (x1 : FVec Ideal S1x16x160 .f32) (r : ℕ) (l : Fin 160) (h : 6016 ≤ r) :
    sigRow x0 x1 r l = 0 := by
  unfold sigRow
  rw [dif_neg (by omega), dif_neg (by omega), dif_neg (by omega)]

/-- A run of sample rows, loaded, is the same run of `sigRow`. -/
theorem ld_x0 (x0 : FVec Ideal S1x6000x160 .f32) (x1 : FVec Ideal S1x16x160 .f32) (o n b : ℕ) (inb) (r : Fin n) (l : Fin 160)
    (r' : ℕ) (l' : Fin 160) (hr : b + r' = 8 + (o + r.val)) (hl : l'.val = l.val) :
    View.ld (Val := Elt Ideal) (e' := .f32) x0 (Rect.unit (s := S1x6000x160) ![0, o, 0] ![1, n, 160] inb) (ix3 0 r l)
      = sigRow x0 x1 (b + r') l' := by
  have hk : o + r.val < 6000 := by
    have := inb 1
    have hr := r.isLt
    simp at this
    omega
  rw [Fin.ext hl, sigRow_mid x0 x1 _ l ⟨o + r.val, hk⟩ (by show _ = 8 + (o + r.val); omega)]
  refine View.ld_unit_apply_of (Val := Elt Ideal) (e := .f32) x0 _ _ inb (ix3 0 r l) (ix3 0 ⟨o + r.val, hk⟩ l) fun a => ?_
  fin_cases a <;> simp [ix3]

/-- Eight edge rows, loaded, are the rows of `sigRow` before the samples or after them. -/
theorem ld_x1 (x0 : FVec Ideal S1x6000x160 .f32) (x1 : FVec Ideal S1x16x160 .f32) (o b : ℕ) (inb) (r : Fin 8) (l : Fin 160)
    (r' : ℕ) (l' : Fin 160) (hl : l'.val = l.val)
    (ho : o + 8 ≤ 16) (h : (o = 0 ∧ b + r' = r.val) ∨ (o = 8 ∧ b + r' = 6008 + r.val)) :
    View.ld (Val := Elt Ideal) (e' := .f32) x1 (Rect.unit (s := S1x16x160) ![0, o, 0] ![1, 8, 160] inb) (ix3 0 r l)
      = sigRow x0 x1 (b + r') l' := by
  have hr := r.isLt
  have e : sigRow x0 x1 (b + r') l' = x1 (ix3 0 ⟨o + r.val, by omega⟩ l) := by
    rw [Fin.ext hl]
    unfold sigRow
    rcases h with ⟨h1, h2⟩ | ⟨h1, h2⟩
    · rw [dif_pos (by omega)]
      exact congrArg x1 (congrArg (fun k => ix3 0 k l) (Fin.ext (by show b + r' = o + r.val; omega)))
    · rw [dif_neg (by omega), dif_neg (by omega), dif_pos (by omega)]
      exact congrArg x1 (congrArg (fun k => ix3 0 k l) (Fin.ext (by show b + r' - 6000 = o + r.val; omega)))
  rw [e]
  refine View.ld_unit_apply_of (Val := Elt Ideal) (e := .f32) x1 _ _ inb (ix3 0 r l) (ix3 0 ⟨o + r.val, by omega⟩ l) fun a => ?_
  fin_cases a <;> simp [ix3]

theorem mem_rows (o n : ℕ) (inb) (j : S272x160.Idx) (h0 : o ≤ (j 0).val) (h1 : (j 0).val < o + n) :
    j ∈ (Rect.unit (s := S272x160) ![o, 0] ![n, 160] inb).set := by
  rw [← Rect.map_emb_univ]
  refine Finset.mem_map.mpr ⟨ix2 ⟨(j 0).val - o, by omega⟩ (j 1), Finset.mem_univ _, ?_⟩
  funext a
  apply Fin.ext
  rw [Rect.emb_apply]
  fin_cases a
  · show o + 1 * ((j 0).val - o) = (j 0).val; omega
  · show 0 + 1 * (j 1).val = (j 1).val; omega

theorem coverA (w3 : FVec Ideal S264x160 .f32) (w2 : FVec Ideal S8x160 .f32) (j : S272x160.Idx) :
    ∃ p ∈ ([⟨Rect.unit (s := S272x160) ![8, 0] ![264, 160] inb_S272x160_S264x160_8_0, w3⟩,
        ⟨Rect.unit (s := S272x160) ![0, 0] ![8, 160] inb_S272x160_S8x160_0_0, w2⟩] : List (View.Piece (Elt Ideal) S272x160 .f32)),
      j ∈ p.1.set := by
  have hj : (j 0).val < 272 := (j 0).isLt
  by_cases h : (j 0).val < 8
  · exact ⟨_, List.mem_cons_of_mem _ List.mem_cons_self, mem_rows 0 8 inb_S272x160_S8x160_0_0 j (by omega) (by omega)⟩
  · exact ⟨_, List.mem_cons_self, mem_rows 8 264 inb_S272x160_S264x160_8_0 j (by omega) (by omega)⟩

theorem coverC (w9 : FVec Ideal S144x160 .f32) (w8 : FVec Ideal S8x160 .f32) (w7 : FVec Ideal S120x160 .f32) (j : S272x160.Idx) :
    ∃ p ∈ ([⟨Rect.unit (s := S272x160) ![128, 0] ![144, 160] inb_S272x160_S144x160_128_0, w9⟩,
        ⟨Rect.unit (s := S272x160) ![120, 0] ![8, 160] inb_S272x160_S8x160_120_0, w8⟩,
        ⟨Rect.unit (s := S272x160) ![0, 0] ![120, 160] inb_S272x160_S120x160_0_0, w7⟩] : List (View.Piece (Elt Ideal) S272x160 .f32)),
      j ∈ p.1.set := by
  have hj : (j 0).val < 272 := (j 0).isLt
  by_cases h : (j 0).val < 120
  · exact ⟨_, List.mem_cons_of_mem _ (List.mem_cons_of_mem _ List.mem_cons_self), mem_rows 0 120 inb_S272x160_S120x160_0_0 j (by omega) (by omega)⟩
  · by_cases h' : (j 0).val < 128
    · exact ⟨_, List.mem_cons_of_mem _ List.mem_cons_self, mem_rows 120 8 inb_S272x160_S8x160_120_0 j (by omega) (by omega)⟩
    · exact ⟨_, List.mem_cons_self, mem_rows 128 144 inb_S272x160_S144x160_128_0 j (by omega) (by omega)⟩

/-- The stored tile `u` is `blockOut` where it lies. -/
theorem out_piece (X : ℕ → FVec Ideal S80x256 .f32) (lt : FVec Ideal S256x256 .f32) (dt : FVec Ideal S1x256 .f32)
    (s : FVec Ideal S80x1 .f32) (y : S1x80x1024.Idx) (x : S1x80x256.Idx) (u : ℕ) (h1 : (y 1).val = (x 1).val)
    (h2 : (y 2).val = 256 * u + (x 2).val) :
    pcenT (X u) (smooth (X u) lt dt (carry X lt dt s u)) x = blockOut X lt dt s y := by
  have hx : (x 2).val < 256 := (x 2).isLt
  have hd : (y 2).val / 256 = u := by omega
  have hm : (y 2).val % 256 = (x 2).val := by omega
  have e1 : y 1 = x 1 := Fin.ext h1
  have e2 : (⟨(y 2).val % 256, Nat.mod_lt _ (by decide)⟩ : Fin 256) = x 2 := Fin.ext hm
  rw [blockOut, hd, e2, e1]
  rfl

theorem out_A (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : cond0_0 i) (hc1 : ¬cond0_1 i) (hc2 : ¬cond0_2 i) (hc3 : cond0_3 i) (hc4 : cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (y : S1x80x1024.Idx) :
    out0_A_6 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 y
      = blockOut (tiles x0 x1 x2 x3 (i 1).val) x4 x5 (firstCol (tiles x0 x1 x2 x3 (i 1).val 0)) y := by
  unfold out0_A_6
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  rw [dft4_tile (k0_pay10 _) x0 x1 x2 x3 (i 1).val 3 (fun r l => (row10 _ r l).trans (ld_rows x0 x1 _ _ (1024 * (i 1).val + 760) _ (k0_off3_eq i) (by omega) r l))]
  have hz := chunk_zero i hc0
  rw [dft4_tile _ x0 x1 x2 x3 (i 1).val 0 ?win]
  case win =>
    intro r l
    rw [View.readCov_eq_canon']
    obtain ⟨j, hj⟩ : ∃ j, j = (Rect.unit (s := S272x160) ![0, 0] ![272, 160] inb_S272x160_S272x160_0_0).idx (ix2 r l) := ⟨_, rfl⟩
    have hj0 : (j 0).val = r.val := by rw [hj]; simp [ix2]
    have hj1 : (j 1).val = l.val := by rw [hj]; simp [ix2]
    show View.canon _ ((Rect.unit (s := S272x160) ![0, 0] ![272, 160] inb_S272x160_S272x160_0_0).idx (ix2 r l)) = _
    rw [← hj]
    canon_tiles x h using coverA _ _ j
    case piece0 =>
      exact (row3 _ x).trans (ld_x0 x0 x1 0 _ _ _ (x 0) (x 1) _ _ (by omega) (by omega))
    case piece1 =>
      exact (row2 _ x).trans (ld_x1 x0 x1 0 _ _ (x 0) (x 1) _ _ (by omega) (by omega) (.inl ⟨by omega, by omega⟩))
  canon_tiles x h
  case piece0 => exact out_piece _ _ _ _ y x 3 (by omega) (by omega)
  case piece1 => exact out_piece _ _ _ _ y x 2 (by omega) (by omega)
  case piece2 => exact out_piece _ _ _ _ y x 1 (by omega) (by omega)
  case piece3 => exact out_piece _ _ _ _ y x 0 (by omega) (by omega)

theorem sout_A (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : cond0_0 i) (hc1 : ¬cond0_1 i) (hc2 : ¬cond0_2 i) (hc3 : cond0_3 i) (hc4 : cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (y : S80x1.Idx) :
    sout0_A_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 y
      = carry (tiles x0 x1 x2 x3 (i 1).val) x4 x5 (firstCol (tiles x0 x1 x2 x3 (i 1).val 0)) 4 y := by
  unfold sout0_A_0
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  rw [dft4_tile (k0_pay10 _) x0 x1 x2 x3 (i 1).val 3 (fun r l => (row10 _ r l).trans (ld_rows x0 x1 _ _ (1024 * (i 1).val + 760) _ (k0_off3_eq i) (by omega) r l))]
  have hz := chunk_zero i hc0
  rw [dft4_tile _ x0 x1 x2 x3 (i 1).val 0 ?win]
  case win =>
    intro r l
    rw [View.readCov_eq_canon']
    obtain ⟨j, hj⟩ : ∃ j, j = (Rect.unit (s := S272x160) ![0, 0] ![272, 160] inb_S272x160_S272x160_0_0).idx (ix2 r l) := ⟨_, rfl⟩
    have hj0 : (j 0).val = r.val := by rw [hj]; simp [ix2]
    have hj1 : (j 1).val = l.val := by rw [hj]; simp [ix2]
    show View.canon _ ((Rect.unit (s := S272x160) ![0, 0] ![272, 160] inb_S272x160_S272x160_0_0).idx (ix2 r l)) = _
    rw [← hj]
    canon_tiles x h using coverA _ _ j
    case piece0 =>
      exact (row3 _ x).trans (ld_x0 x0 x1 0 _ _ _ (x 0) (x 1) _ _ (by omega) (by omega))
    case piece1 =>
      exact (row2 _ x).trans (ld_x1 x0 x1 0 _ _ (x 0) (x 1) _ _ (by omega) (by omega) (.inl ⟨by omega, by omega⟩))
  rfl

theorem out_B (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : ¬cond0_0 i) (hc1 : cond0_1 i) (hc2 : ¬cond0_2 i) (hc3 : cond0_3 i) (hc4 : ¬cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (xs0 : FVec Ideal S80x1 .f32) (y : S1x80x1024.Idx) :
    out0_B_6 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 xs0 y
      = blockOut (tiles x0 x1 x2 x3 (i 1).val) x4 x5 xs0 y := by
  unfold out0_B_6
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  have hq := chunk_pos i hc1
  rw [dft4_tile (k0_pay4 _) x0 x1 x2 x3 (i 1).val 0 (fun r l => (row4 _ r l).trans (ld_rows x0 x1 _ _ (1024 * (i 1).val - 8) _ (off1_eq i hq) (by omega) r l))]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  rw [dft4_tile (k0_pay10 _) x0 x1 x2 x3 (i 1).val 3 (fun r l => (row10 _ r l).trans (ld_rows x0 x1 _ _ (1024 * (i 1).val + 760) _ (k0_off3_eq i) (by omega) r l))]
  canon_tiles x h
  case piece0 => exact out_piece _ _ _ _ y x 3 (by omega) (by omega)
  case piece1 => exact out_piece _ _ _ _ y x 2 (by omega) (by omega)
  case piece2 => exact out_piece _ _ _ _ y x 1 (by omega) (by omega)
  case piece3 => exact out_piece _ _ _ _ y x 0 (by omega) (by omega)

theorem sout_B (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : ¬cond0_0 i) (hc1 : cond0_1 i) (hc2 : ¬cond0_2 i) (hc3 : cond0_3 i) (hc4 : ¬cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (xs0 : FVec Ideal S80x1 .f32) (y : S80x1.Idx) :
    sout0_B_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 xs0 y
      = carry (tiles x0 x1 x2 x3 (i 1).val) x4 x5 xs0 4 y := by
  unfold sout0_B_0
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  have hq := chunk_pos i hc1
  rw [dft4_tile (k0_pay4 _) x0 x1 x2 x3 (i 1).val 0 (fun r l => (row4 _ r l).trans (ld_rows x0 x1 _ _ (1024 * (i 1).val - 8) _ (off1_eq i hq) (by omega) r l))]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  rw [dft4_tile (k0_pay10 _) x0 x1 x2 x3 (i 1).val 3 (fun r l => (row10 _ r l).trans (ld_rows x0 x1 _ _ (1024 * (i 1).val + 760) _ (k0_off3_eq i) (by omega) r l))]
  rfl

theorem out_C (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : ¬cond0_0 i) (hc1 : cond0_1 i) (hc2 : cond0_2 i) (hc3 : ¬cond0_3 i) (hc4 : ¬cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (xs0 : FVec Ideal S80x1 .f32) (y : S1x80x1024.Idx) :
    out0_C_6 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 xs0 y
      = blockOut (tiles x0 x1 x2 x3 (i 1).val) x4 x5 xs0 y := by
  unfold out0_C_6
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  have hq := chunk_pos i hc1
  rw [dft4_tile (k0_pay4 _) x0 x1 x2 x3 (i 1).val 0 (fun r l => (row4 _ r l).trans (ld_rows x0 x1 _ _ (1024 * (i 1).val - 8) _ (off1_eq i hq) (by omega) r l))]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  have hz := chunk_last i hc2
  rw [dft4_tile _ x0 x1 x2 x3 (i 1).val 3 ?win]
  case win =>
    intro r l
    rw [View.readCov_eq_canon']
    obtain ⟨j, hj⟩ : ∃ j, j = (Rect.unit (s := S272x160) ![0, 0] ![272, 160] inb_S272x160_S272x160_0_0).idx (ix2 r l) := ⟨_, rfl⟩
    have hj0 : (j 0).val = r.val := by rw [hj]; simp [ix2]
    have hj1 : (j 1).val = l.val := by rw [hj]; simp [ix2]
    show View.canon _ ((Rect.unit (s := S272x160) ![0, 0] ![272, 160] inb_S272x160_S272x160_0_0).idx (ix2 r l)) = _
    rw [← hj]
    canon_tiles x h using coverC _ _ _ j
    case piece0 =>
      exact (pad9 x).trans (sigRow_end x0 x1 _ _ (by omega)).symm
    case piece1 =>
      exact (row8 _ x).trans (ld_x1 x0 x1 8 _ _ (x 0) (x 1) _ _ (by omega) (by omega) (.inr ⟨by omega, by omega⟩))
    case piece2 =>
      exact (row7 _ x).trans (ld_x0 x0 x1 5880 _ _ _ (x 0) (x 1) _ _ (by omega) (by omega))
  canon_tiles x h
  case piece0 => exact out_piece _ _ _ _ y x 3 (by omega) (by omega)
  case piece1 => exact out_piece _ _ _ _ y x 2 (by omega) (by omega)
  case piece2 => exact out_piece _ _ _ _ y x 1 (by omega) (by omega)
  case piece3 => exact out_piece _ _ _ _ y x 0 (by omega) (by omega)

theorem sout_C (c : Dev nD) (i : grid0.Coords) (arg2 : Memref sig .tc .vmem S1x6000x160 .f32) (harg2 : arg2.IsWhole) (arg3 : Memref sig .tc .vmem S1x16x160 .f32) (harg3 : arg3.IsWhole) (arg4 : Memref sig .tc .vmem S640x512 .bf16) (harg4 : arg4.IsWhole) (arg5 : Memref sig .tc .vmem S80x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x80x1024 .f32) (harg8 : arg8.IsWhole) (arg9 : Memref sig .tc .vmem S80x1 .f32) (harg9 : arg9.IsWhole) (arg10 : Memref sig .tc .vmem S272x160 .f32) (harg10 : arg10.IsWhole) (arg11 : Memref sig .tc .vmem S272x160 .f32) (harg11 : arg11.IsWhole) (hc0 : ¬cond0_0 i) (hc1 : cond0_1 i) (hc2 : cond0_2 i) (hc3 : ¬cond0_3 i) (hc4 : ¬cond0_4 i)
    (x0 : FVec Ideal S1x6000x160 .f32) (x1 : FVec Ideal S1x16x160 .f32) (x2 : FVec Ideal S640x512 .bf16) (x3 : FVec Ideal S80x256 .f32) (x4 : FVec Ideal S256x256 .f32) (x5 : FVec Ideal S1x256 .f32) (xs0 : FVec Ideal S80x1 .f32) (y : S80x1.Idx) :
    sout0_C_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 x5 xs0 y
      = carry (tiles x0 x1 x2 x3 (i 1).val) x4 x5 xs0 4 y := by
  unfold sout0_C_0
  frame_out
  simp only [pay12_eq, pay15_eq, pay16_eq, pay19_eq, pay20_eq, pay21_eq, pay24_eq, pay25_eq, pay26_eq, pay27_eq, pay29_eq, pay30_eq, pay33_eq, pay35_eq, pay36_eq, pay38_eq, pay41_eq, pay1_eq, pay40_eq]
  simp only [ld_aSl0, ld_aSl1, ld_aSl2, ld_aSl3]
  have hq := chunk_pos i hc1
  rw [dft4_tile (k0_pay4 _) x0 x1 x2 x3 (i 1).val 0 (fun r l => (row4 _ r l).trans (ld_rows x0 x1 _ _ (1024 * (i 1).val - 8) _ (off1_eq i hq) (by omega) r l))]
  rw [dft4_tile (k0_pay5 _) x0 x1 x2 x3 (i 1).val 1 (fun r l => (row5 _ r l).trans (ld_rows x0 x1 _ _ (1024 * (i 1).val + 248) _ (off2_1 i) (by omega) r l))]
  rw [dft4_tile (k0_pay6 _) x0 x1 x2 x3 (i 1).val 2 (fun r l => (row6 _ r l).trans (ld_rows x0 x1 _ _ (1024 * (i 1).val + 504) _ (off2_2 i) (by omega) r l))]
  have hz := chunk_last i hc2
  rw [dft4_tile _ x0 x1 x2 x3 (i 1).val 3 ?win]
  case win =>
    intro r l
    rw [View.readCov_eq_canon']
    obtain ⟨j, hj⟩ : ∃ j, j = (Rect.unit (s := S272x160) ![0, 0] ![272, 160] inb_S272x160_S272x160_0_0).idx (ix2 r l) := ⟨_, rfl⟩
    have hj0 : (j 0).val = r.val := by rw [hj]; simp [ix2]
    have hj1 : (j 1).val = l.val := by rw [hj]; simp [ix2]
    show View.canon _ ((Rect.unit (s := S272x160) ![0, 0] ![272, 160] inb_S272x160_S272x160_0_0).idx (ix2 r l)) = _
    rw [← hj]
    canon_tiles x h using coverC _ _ _ j
    case piece0 =>
      exact (pad9 x).trans (sigRow_end x0 x1 _ _ (by omega)).symm
    case piece1 =>
      exact (row8 _ x).trans (ld_x1 x0 x1 8 _ _ (x 0) (x 1) _ _ (by omega) (by omega) (.inr ⟨by omega, by omega⟩))
    case piece2 =>
      exact (row7 _ x).trans (ld_x0 x0 x1 5880 _ _ _ (x 0) (x 1) _ _ (by omega) (by omega))
  rfl

end Cert.KernelIdeal.Block
-- ==== Proof.Spec.lean ====
/- THE MATHEMATICS. What the kernel and the reference are both shown to compute, over the extended reals: the windowed
   Fourier power of a reflected signal, the mel filter bank, the running average over time, and the compressed ratio. -/
module

public import Idealize.ShloMosaic.Lib.IdealHost
public import Idealize.ShloMosaic.PureOps.Ideal.Laws

@[expose] public section

noncomputable section

namespace Cert.Pcen

open Idealize.ShloMosaic

/-- The extended real that a float word is. -/
abbrev w32 (b : BitVec 32) : EReal := Ideal.ofBits .f32 b

/-- A natural number as an extended real. -/
def num (k : ℕ) : EReal := ((k : ℝ) : EReal)

/-- A signed word's value, of a natural number that fits. -/
theorem sitofp_num (k : ℕ) (h : k < 2 ^ 31) :
    FloatOps.sitofp (F := Ideal) .f32 (BitVec.ofNat 32 k) = num k := by
  change (((BitVec.ofNat 32 k).toInt : ℝ) : EReal) = _
  have : (BitVec.ofNat 32 k).toInt = (k : ℤ) := by
    rw [BitVec.toInt_eq_toNat_cond, BitVec.toNat_ofNat, Nat.mod_eq_of_lt (by omega), if_pos (by omega)]
  rw [this]; simp [num]

/-- `n + 1` equally spaced points from `a` to `b`, the last being `b` itself; `w` is the word of `n`. -/
def ramp (n : ℕ) (w : BitVec 32) (a b : EReal) (k : ℕ) : EReal :=
  if k < n then a * (1 - Ideal.div (num k) (w32 w)) + b * Ideal.div (num k) (w32 w) else b

/-- The frequency of bin `k`: 257 points from 0 to 8000. -/
def freq (k : ℕ) : EReal := ramp 256 0x43800000#32 0 (w32 0x45FA0000#32) k

/-- The mel value of a ratio `1 + f / 700`. -/
def melOf (x : EReal) : EReal := w32 0x45223000#32 * (Ideal.log x * w32 0x3EDE5BD9#32)

/-- The mel points: 82 of them, equally spaced. -/
def melPt (i : ℕ) : EReal := ramp 81 0x42A20000#32 (melOf 1) (melOf (w32 0x4146DB6E#32)) i

/-- The frequency of mel point `i`. -/
def fpt (i : ℕ) : EReal :=
  w32 0x442F0000#32 * (Ideal.pow (w32 0x41200000#32) (Ideal.div (melPt i) (w32 0x45223000#32)) - 1)

/-- The triangular filter of band `m` at bin `k`. -/
def bank (k m : ℕ) : EReal :=
  max 0 (min (Ideal.div (-(fpt m - freq k)) (fpt (m + 1) - fpt m)) (Ideal.div (fpt (m + 2) - freq k) (fpt (m + 2) - fpt (m + 1))))

/-- The window at sample `n` of a frame. -/
def hann (n : ℕ) : EReal :=
  w32 0x3F000000#32 * (1 - Ideal.cos (Ideal.div (w32 0x40C90FDB#32 * num n) (w32 0x44000000#32)))

/-- The angle of bin `k` at sample `n`. -/
def ang (n k : ℕ) : EReal := Ideal.div (w32 0x40C90FDB#32 * (num n * num k)) (w32 0x44000000#32)

/-- The signal with 256 samples reflected about its first and its last sample. -/
def pad (x : ℕ → EReal) (p : ℕ) : EReal :=
  if p < 256 then x (256 - p) else if p < 960256 then x (p - 256) else x (1920254 - p)

/-- The cosine sum of frame `t` at bin `k`. -/
def re (x : ℕ → EReal) (t k : ℕ) : EReal := ∑ n : Fin 512, pad x (160 * t + n) * (hann n * Ideal.cos (ang n k))

/-- The sine sum of frame `t` at bin `k`. -/
def im (x : ℕ → EReal) (t k : ℕ) : EReal := ∑ n : Fin 512, pad x (160 * t + n) * (hann n * Ideal.sin (ang n k))

/-- The power of frame `t` at bin `k`. -/
def power (x : ℕ → EReal) (t k : ℕ) : EReal := re x t k * re x t k + im x t k * im x t k

/-- The mel energy of frame `t` in band `m`, bins 1 to 256, with the small constant added. -/
def energy (x : ℕ → EReal) (m t : ℕ) : EReal :=
  ∑ k : Fin 256, bank (k + 1) m * power x t (k + 1) + w32 0x3089705F#32

/-- The weight of the new frame in the running average, `f32(0.025)`. -/
def bR : ℝ := 13421773 / 536870912

/-- The weight of the old average. -/
def aR : ℝ := 1 - bR

theorem ofBits_b : w32 0x3CCCCCCD#32 = (bR : EReal) := by
  simp [Ideal.ofBits, Ideal.ieee, bR, -EReal.coe_mul]; norm_num

theorem one_add_num (k : ℕ) : 1 + num k = num (k + 1) := by
  simp [num, add_comm]

theorem num_le (k i : ℕ) : (num k ≤ num i) = (k ≤ i) := by
  simp [num]

theorem num_sub {k i : ℕ} (h : k ≤ i) : num i - num k = num (i - k) := by
  simp only [num]; rw [← EReal.coe_sub, Nat.cast_sub h]

/-- A power of `1 - b` with a natural exponent. -/
theorem pow_num (k : ℕ) : Ideal.pow (1 - w32 0x3CCCCCCD#32) (num k) = ((aR ^ k : ℝ) : EReal) := by
  rw [ofBits_b, ← EReal.coe_one, ← EReal.coe_sub]
  exact congrArg Real.toEReal (Real.rpow_natCast _ _)

/-- The running average of a sequence, from its first element. -/
def avg (u : ℕ → EReal) : ℕ → EReal
  | 0 => u 0
  | t + 1 => (aR : EReal) * avg u t + (bR : EReal) * u (t + 1)

end Cert.Pcen
-- ==== Proof.Average.lean ====
/- THE RUNNING AVERAGE BY TILES. The average of a tile's frames from the average before it: one weighted sum of the
   tile's frames and a decayed start, in place of one step a frame. -/
module

public import proofs.«01_k».proof.Proof.Spec

@[expose] public section

noncomputable section

namespace Cert.Pcen

open Idealize.ShloMosaic

theorem bR_nonneg : 0 ≤ bR := by unfold bR; norm_num

theorem aR_nonneg : 0 ≤ aR := by unfold aR bR; norm_num

/-- Multiplying by a nonnegative real distributes over any sum of two. -/
theorem real_mul_add {r : ℝ} (h : 0 ≤ r) (x y : EReal) : (r : EReal) * (x + y) = r * x + r * y :=
  EReal.left_distrib_of_nonneg_of_ne_top (EReal.coe_nonneg.mpr h) (EReal.coe_ne_top r) x y

/-- … and over a finite sum. -/
theorem real_mul_sum {r : ℝ} (h : 0 ≤ r) (n : ℕ) (f : ℕ → EReal) :
    (r : EReal) * ∑ k ∈ Finset.range n, f k = ∑ k ∈ Finset.range n, (r : EReal) * f k := by
  induction n with
  | zero => simp
  | succ n ih => rw [Finset.sum_range_succ, Finset.sum_range_succ, real_mul_add h, ih]

/-- The weighted sum of the frames `T … T + i` and the start `s` decayed over `i + 1` frames. -/
def tileAvg (u : ℕ → EReal) (T : ℕ) (s : EReal) (i : ℕ) : EReal :=
  ∑ k ∈ Finset.range (i + 1), u (T + k) * ((bR * aR ^ (i - k) : ℝ) : EReal) + s * ((aR ^ (i + 1) : ℝ) : EReal)

/-- It obeys the average's own step. -/
theorem tileAvg_succ (u : ℕ → EReal) (T : ℕ) (s : EReal) (i : ℕ) :
    tileAvg u T s (i + 1) = (aR : EReal) * tileAvg u T s i + (bR : EReal) * u (T + (i + 1)) := by
  have e : ∀ k ∈ Finset.range (i + 1), u (T + k) * ((bR * aR ^ (i + 1 - k) : ℝ) : EReal)
      = (aR : EReal) * (u (T + k) * ((bR * aR ^ (i - k) : ℝ) : EReal)) := fun k hk => by
    have hk : k < i + 1 := Finset.mem_range.mp hk
    rw [show i + 1 - k = (i - k) + 1 by omega, pow_succ, ← mul_assoc, mul_comm (bR * aR ^ (i - k)) aR, EReal.coe_mul]
    exact mul_left_comm _ _ _
  unfold tileAvg
  rw [Finset.sum_range_succ, Finset.sum_congr rfl e, ← real_mul_sum aR_nonneg, real_mul_add aR_nonneg, Nat.sub_self, pow_zero,
    mul_one, pow_succ, mul_comm (aR ^ (i + 1)) aR, EReal.coe_mul, mul_left_comm s, mul_comm (u _) (bR : EReal)]
  exact add_right_comm _ _ _

/-- A later tile, from the average of the frame before it. -/
theorem tileAvg_later (u : ℕ → EReal) (T i : ℕ) : tileAvg u (T + 1) (avg u T) i = avg u (T + 1 + i) := by
  induction i with
  | zero =>
    simp only [tileAvg, zero_add, Finset.sum_range_one, Nat.sub_self, pow_zero, mul_one, pow_one, add_zero, avg]
    rw [mul_comm (u _), mul_comm (avg u T), add_comm]
  | succ i ih => rw [tileAvg_succ, ih, ← add_assoc]; rfl

/-- The first tile, from the first frame. -/
theorem tileAvg_first (u : ℕ → EReal) (i : ℕ) : tileAvg u 0 (u 0) i = avg u i := by
  induction i with
  | zero =>
    simp only [tileAvg, zero_add, Finset.sum_range_one, Nat.sub_self, pow_zero, mul_one, pow_one, add_zero, avg]
    rw [← EReal.left_distrib_of_nonneg (EReal.coe_nonneg.mpr bR_nonneg) (EReal.coe_nonneg.mpr aR_nonneg), ← EReal.coe_add,
      show bR + aR = 1 by unfold aR; ring, EReal.coe_one, mul_one]
  | succ i ih => rw [tileAvg_succ, ih, zero_add]; rfl

/-- A tile's sum against the whole table of weights, the weights of later frames being zero: only the frames up to `i`
    count, whatever the others hold. -/
theorem tile_sum (u X : ℕ → EReal) (T : ℕ) (s : EReal) (i : Fin 256) (hX : ∀ k ≤ i.val, X k = u (T + k)) :
    (∑ k : Fin 256, X k * (if k.val ≤ i.val then ((bR * aR ^ (i.val - k.val) : ℝ) : EReal) else 0))
      + s * ((aR ^ (i.val + 1) : ℝ) : EReal) = tileAvg u T s i := by
  unfold tileAvg
  rw [Fin.sum_univ_eq_sum_range (fun k => X k * (if k ≤ i.val then ((bR * aR ^ (i.val - k) : ℝ) : EReal) else 0)) 256]
  rw [← Finset.sum_subset (Finset.range_mono (show i.val + 1 ≤ 256 by omega)) (fun k _ hk => by
    rw [if_neg (by simpa using hk), mul_zero])]
  refine congrArg (· + _) (Finset.sum_congr rfl fun k hk => ?_)
  have hk : k < i.val + 1 := Finset.mem_range.mp hk
  rw [if_pos (by omega), hX k (by omega)]

end Cert.Pcen
-- ==== Proof.Tile.lean ====
/- ONE CHUNK OF FRAMES. When the blocks that a grid point stages are the rows of one signal and the tables, its four tiles
   of energies are the signal's energies, and what it writes and carries on are the compressed ratios and the running
   average of the signal's frames. -/
module

public import proofs.«01_k».proof.Proof.BlockOut
public import proofs.«01_k».proof.Proof.Average

@[expose] public section

set_option maxRecDepth 16384

noncomputable section

namespace Cert.KernelIdeal.Block

open Cert.KernelIdeal Cert.KernelIdeal.Gen Cert.Pcen Idealize.ShloMosaic Idealize.ShloMosaic.TcCoe

/-- The staged blocks are the signal `x` in rows, its edge rows, and the five tables. -/
structure Staged (x : ℕ → EReal) (x0 : FVec Ideal S1x6000x160 .f32) (x1 : FVec Ideal S1x16x160 .f32) (x2 : FVec Ideal S640x512 .bf16)
    (x3 : FVec Ideal S80x256 .f32) (x4 : FVec Ideal S256x256 .f32) (x5 : FVec Ideal S1x256 .f32) : Prop where
  rows : ∀ (k : Fin 6000) (l : Fin 160), x0 (ix3 0 k l) = x (160 * k.val + l.val)
  edges : ∀ (k : Fin 16) (l : Fin 160), x1 (ix3 0 k l) = if k.val * 160 + l.val < 1024 then 0
    else if k.val * 160 + l.val < 1280 then x (1280 - (k.val * 160 + l.val))
    else if k.val * 160 + l.val < 1536 then x (961278 - (k.val * 160 + l.val)) else 0
  waves : ∀ (k : Fin 640) (i : Fin 512), x2 (ix2 k i) = if 64 ≤ k.val ∧ k.val < 576 then
        (if i.val < 256 then hann (k.val - 64) * Ideal.cos (ang (k.val - 64) (i.val + 1)) else hann (k.val - 64) * Ideal.sin (ang (k.val - 64) (i.val - 256 + 1)))
      else 0
  filters : ∀ (i : Fin 80) (k : Fin 256), x3 (ix2 i k) = bank (k.val + 1) i
  weights : ∀ (k i : Fin 256), x4 (ix2 k i) = if k.val ≤ i.val then ((bR * aR ^ (i.val - k.val) : ℝ) : EReal) else 0
  decay : ∀ i : Fin 256, x5 (ix2 0 i) = ((aR ^ (i.val + 1) : ℝ) : EReal)

variable {x : ℕ → EReal} {x0 : FVec Ideal S1x6000x160 .f32} {x1 : FVec Ideal S1x16x160 .f32} {x2 : FVec Ideal S640x512 .bf16}
    {x3 : FVec Ideal S80x256 .f32} {x4 : FVec Ideal S256x256 .f32} {x5 : FVec Ideal S1x256 .f32}

/-- The rows that frames read hold the reflected signal. -/
theorem sigRow_pad (h : Staged x x0 x1 x2 x3 x4 x5) (r : ℕ) (l : Fin 160) (h1 : 1024 ≤ 160 * r + l.val) (h2 : 160 * r + l.val < 961536) :
    sigRow x0 x1 r l = Cert.Pcen.pad x (160 * r + l.val - 1024) := by
  unfold sigRow Cert.Pcen.pad
  by_cases a : r < 8
  · rw [dif_pos a, if_pos (by omega), h.edges, if_neg (by show ¬ r * 160 + _ < _; omega), if_pos (by show r * 160 + _ < _; omega)]
    exact congrArg x (by show 1280 - (r * 160 + _) = _; omega)
  rw [dif_neg a]
  by_cases b : r < 6008
  · rw [dif_pos b, if_neg (by omega), if_pos (by omega), h.rows]
    exact congrArg x (by show 160 * (r - 8) + _ = _; omega)
  rw [dif_neg b, dif_pos (by omega), if_neg (by omega), if_neg (by omega), h.edges]
  rw [if_neg (by show ¬ (r - 6000) * 160 + _ < _; omega), if_neg (by show ¬ (r - 6000) * 160 + _ < _; omega), if_pos (by show (r - 6000) * 160 + _ < _; omega)]
  exact congrArg x (by show 961278 - ((r - 6000) * 160 + _) = _; omega)

/-- Four runs of 160 make one of 640, of which the middle 512 count. -/
theorem sum4 (f : ℕ → EReal) (h0 : ∀ a < 640, ¬ (64 ≤ a ∧ a < 576) → f a = 0) :
    (((∑ l : Fin 160, f (160 * 0 + l)) + ∑ l : Fin 160, f (160 * 1 + l)) + ∑ l : Fin 160, f (160 * 2 + l)) + ∑ l : Fin 160, f (160 * 3 + l)
      = ∑ n : Fin 512, f (64 + n) := by
  simp only [Fin.sum_univ_eq_sum_range (fun l => f (160 * 0 + l)) 160, Fin.sum_univ_eq_sum_range (fun l => f (160 * 1 + l)) 160,
    Fin.sum_univ_eq_sum_range (fun l => f (160 * 2 + l)) 160, Fin.sum_univ_eq_sum_range (fun l => f (160 * 3 + l)) 160,
    Fin.sum_univ_eq_sum_range (fun n => f (64 + n)) 512]
  have e1 : ∑ a ∈ Finset.range 640, f a = ∑ n ∈ Finset.range 512, f (64 + n) := by
    rw [show 640 = 64 + 512 + 64 from rfl, Finset.sum_range_add, Finset.sum_range_add]
    rw [Finset.sum_eq_zero (s := Finset.range 64) (f := f) (fun a ha => h0 a (by have := Finset.mem_range.mp ha; omega) (by have := Finset.mem_range.mp ha; omega)),
      Finset.sum_eq_zero (s := Finset.range 64) (f := fun a => f (64 + 512 + a)) (fun a ha => h0 _ (by have := Finset.mem_range.mp ha; omega) (by have := Finset.mem_range.mp ha; omega)),
      zero_add, add_zero]
  rw [← e1, show 640 = 160 + 160 + 160 + 160 from rfl, Finset.sum_range_add, Finset.sum_range_add, Finset.sum_range_add]
  simp only [mul_zero, zero_add, mul_one, Nat.reduceMul, Nat.reduceAdd]

/-- One product of the sum of frame `t` at column `j`, by its place `a` in the 640 samples of four rows. -/
def term (x : ℕ → EReal) (t : ℕ) (j : Fin 512) (a : ℕ) : EReal :=
  if 64 ≤ a ∧ a < 576 then Cert.Pcen.pad x (160 * t + (a - 64)) * (if j.val < 256 then hann (a - 64) * Ideal.cos (ang (a - 64) (j.val + 1))
    else hann (a - 64) * Ideal.sin (ang (a - 64) (j.val - 256 + 1))) else 0

/-- One of the four runs of a frame's sum. -/
theorem run_sum (h : Staged x x0 x1 x2 x3 x4 x5) (t : ℕ) (ht : t ≤ 6000) (p : Fin 4) (j : Fin 512) (r : ℕ) (hr : r = t + 6 + p.val) :
    ∑ l : Fin 160, sigRow x0 x1 r l * aSl x2 p (ix2 l j) = ∑ l : Fin 160, term x t j (160 * p.val + l.val) := by
  subst hr
  refine Finset.sum_congr rfl fun l _ => ?_
  have e : aSl x2 p (ix2 l j) = _ := h.waves ⟨160 * p.val + l.val, by omega⟩ j
  rw [e, term]
  by_cases c : 64 ≤ 160 * p.val + l.val ∧ 160 * p.val + l.val < 576
  · rw [if_pos c, if_pos c, sigRow_pad h _ _ (by omega) (by omega)]
    exact congrArg (· * _) (congrArg (Cert.Pcen.pad x) (by omega))
  · rw [if_neg c, if_neg c, mul_zero]

theorem dft4_win_at (b : ℕ) (i : Fin 256) (j : Fin 512) :
    dft4 (winV x0 x1 b) (aSl x2 0) (aSl x2 1) (aSl x2 2) (aSl x2 3) (ix2 i j)
      = (((∑ l : Fin 160, sigRow x0 x1 (b + (6 + i.val)) l * aSl x2 0 (ix2 l j)) + ∑ l : Fin 160, sigRow x0 x1 (b + (7 + i.val)) l * aSl x2 1 (ix2 l j))
        + ∑ l : Fin 160, sigRow x0 x1 (b + (8 + i.val)) l * aSl x2 2 (ix2 l j)) + ∑ l : Fin 160, sigRow x0 x1 (b + (9 + i.val)) l * aSl x2 3 (ix2 l j) := rfl

/-- The Fourier sums of a frame of the signal. -/
theorem dft_at (h : Staged x x0 x1 x2 x3 x4 x5) (b : ℕ) (i : Fin 256) (hb : b + i.val ≤ 6000) (j : Fin 512) :
    dft4 (winV x0 x1 b) (aSl x2 0) (aSl x2 1) (aSl x2 2) (aSl x2 3) (ix2 i j)
      = if j.val < 256 then re x (b + i.val) (j.val + 1) else im x (b + i.val) (j.val - 256 + 1) := by
  rw [dft4_win_at, run_sum h (b + i.val) hb 0 j _ (by show b + (6 + i.val) = b + i.val + 6 + 0; omega),
    run_sum h (b + i.val) hb 1 j _ (by show b + (7 + i.val) = b + i.val + 6 + 1; omega),
    run_sum h (b + i.val) hb 2 j _ (by show b + (8 + i.val) = b + i.val + 6 + 2; omega),
    run_sum h (b + i.val) hb 3 j _ (by show b + (9 + i.val) = b + i.val + 6 + 3; omega)]
  refine (sum4 (term x (b + i.val) j) fun a _ ha => if_neg ha).trans ?_
  by_cases c : j.val < 256
  · rw [if_pos c]
    refine Finset.sum_congr rfl fun n _ => ?_
    rw [term, if_pos (by omega), if_pos c, Nat.add_sub_cancel_left]
  · rw [if_neg c]
    refine Finset.sum_congr rfl fun n _ => ?_
    rw [term, if_pos (by omega), if_neg c, Nat.add_sub_cancel_left]

/-- A tile's energies are the signal's. -/
theorem mels_at (h : Staged x x0 x1 x2 x3 x4 x5) (b : ℕ) (m : Fin 80) (i : Fin 256) (hb : b + i.val ≤ 6000) :
    mels x0 x1 x2 x3 b (ix2 m i) = energy x m (b + i.val) := by
  refine congrArg (· + _) (Finset.sum_congr rfl fun k _ => ?_)
  refine congrArg₂ (· * ·) (h.filters m k) ?_
  have e1 := dft_at h b i hb ⟨k.val, by omega⟩
  have e2 := dft_at h b i hb ⟨256 + k.val, by omega⟩
  rw [if_pos (show k.val < 256 by omega)] at e1
  rw [if_neg (show ¬ 256 + k.val < 256 by omega), show 256 + k.val - 256 = k.val by omega] at e2
  exact congrArg₂ (· + ·) (congrArg₂ (· * ·) e1 e1) (congrArg₂ (· * ·) e2 e2)

/-- The running average over a tile. -/
theorem smooth_at (h : Staged x x0 x1 x2 x3 x4 x5) (b : ℕ) (m : Fin 80) (i : Fin 256) (hb : b + i.val ≤ 6000) (s : FVec Ideal S80x1 .f32) :
    smooth (mels x0 x1 x2 x3 b) x4 x5 s (ix2 m i) = tileAvg (energy x m) b (s (ix2 m 0)) i := by
  refine Eq.trans ?_ (tile_sum (energy x m) (fun k => if hk : k < 256 then mels x0 x1 x2 x3 b (ix2 m ⟨k, hk⟩) else 0) b (s (ix2 m 0)) i fun k hk => ?_)
  · refine congrArg₂ (· + ·) (Finset.sum_congr rfl fun k _ => congrArg₂ (· * ·) ?_ (h.weights k i)) (congrArg₂ (· * ·) rfl (h.decay i))
    rw [dif_pos k.isLt]; rfl
  · rw [dif_pos (by omega)]
    exact mels_at h b m ⟨k, by omega⟩ (by show b + k ≤ 6000; omega)

/-- What the state before chunk `q` must be: the first frame's energy, or the average of the frame before. -/
def start (x : ℕ → EReal) (m : Fin 80) (t : ℕ) : EReal := match t with
  | 0 => energy x m 0
  | t + 1 => avg (energy x m) t

theorem tileAvg_start (x : ℕ → EReal) (m : Fin 80) (t i : ℕ) : tileAvg (energy x m) t (start x m t) i = avg (energy x m) (t + i) := by
  cases t with
  | zero => rw [zero_add]; exact tileAvg_first _ _
  | succ t => exact tileAvg_later _ _ _

theorem start_pos (x : ℕ → EReal) (m : Fin 80) (t : ℕ) (h : 1 ≤ t) : start x m t = avg (energy x m) (t - 1) := by
  cases t with
  | zero => omega
  | succ t => rfl

/-- The state before each tile of a chunk. -/
theorem carry_at (h : Staged x x0 x1 x2 x3 x4 x5) (q : ℕ) (s : FVec Ideal S80x1 .f32) (hs : ∀ m, s (ix2 m 0) = start x m (1024 * q)) (m : Fin 80) :
    ∀ u : ℕ, 1024 * q + 256 * u ≤ 6001 → carry (tiles x0 x1 x2 x3 q) x4 x5 s u (ix2 m 0) = start x m (1024 * q + 256 * u)
  | 0, _ => hs m
  | u + 1, hu => by
    refine (smooth_at h (1024 * q + 256 * u) m ⟨255, by decide⟩ (by show _ + 255 ≤ 6000; omega) _).trans ?_
    rw [carry_at h q s hs m u (by omega), tileAvg_start, start_pos _ _ _ (by omega)]
    exact congrArg _ (by show _ + 255 = _; omega)

/-- What a point writes, at a frame that exists. -/
theorem blockOut_at (h : Staged x x0 x1 x2 x3 x4 x5) (q : ℕ) (s : FVec Ideal S80x1 .f32) (hs : ∀ m, s (ix2 m 0) = start x m (1024 * q)) (m : Fin 80)
    (i : Fin 1024) (hi : 1024 * q + i.val ≤ 6000) :
    blockOut (tiles x0 x1 x2 x3 q) x4 x5 s (ix3 0 m i) = pcen1 (energy x m (1024 * q + i.val)) (avg (energy x m) (1024 * q + i.val)) := by
  have hd := Nat.div_add_mod i.val 256
  have hm := Nat.mod_lt i.val (show 256 > 0 by decide)
  have e : 1024 * q + 256 * (i.val / 256) + i.val % 256 = 1024 * q + i.val := by omega
  refine congrArg₂ pcen1 ((mels_at h (1024 * q + 256 * (i.val / 256)) m ⟨i.val % 256, hm⟩ (by show _ + i.val % 256 ≤ _; omega)).trans
    (congrArg _ e)) ((smooth_at h (1024 * q + 256 * (i.val / 256)) m ⟨i.val % 256, hm⟩ (by show _ + i.val % 256 ≤ _; omega) _).trans ?_)
  refine (congrArg (fun z => tileAvg (energy x m) (1024 * q + 256 * (i.val / 256)) z (i.val % 256)) (carry_at h q s hs m (i.val / 256) (by omega))).trans ?_
  rw [tileAvg_start]
  exact congrArg _ e

end Cert.KernelIdeal.Block
-- ==== Proof.KTables.lean ====
/- THE KERNEL'S TABLES. What the host code hands the kernel, read at an index: the signal's rows, the reflected edges, the
   windowed cosines and sines, the filter bank, and the weights of the running average. -/
module

public import proofs.«01_k».proof.Proof.BlockOut
public import proofs.«01_k».proof.Proof.Gen.KernelIdeal.Value
public import Idealize.ShloMosaic.Lib.Pipeline.ValueKit
public import Idealize.ShloMosaic.Lib.Pointwise
public import proofs.«01_k».proof.Proof.Spec
public import Idealize.ShloMosaic.Lib.Claim
public import Idealize.ShloMosaic.Lib.StableHlo.ReadAt

@[expose] public section
set_option maxRecDepth 16384

noncomputable section
namespace Cert.KernelIdeal.Block
open Cert.KernelIdeal Cert.KernelIdeal.Gen Idealize.ShloMosaic Idealize.ShloMosaic.TcCoe
open Cert.Pcen

/-- The samples of signal `s`, zero past its end. -/
def wav (A : FVec Ideal S32x960000 .f32) (s : Fin 32) (n : ℕ) : EReal := if h : n < 960000 then A (ix2 s ⟨n, h⟩) else 0

/-- The frequencies' table. -/
theorem freqs_at (X : Valuation τ sig (Elt Ideal)) (h0 : X (Proc.tc.devRef main_cst_8) = constant (F := Ideal) S_ .f32 0x00000000#32)
    (h1 : X (Proc.tc.devRef main_cst_9) = constant (F := Ideal) S_ .f32 0x45FA0000#32) (k : Fin 257) :
   (show FVec Ideal S257 .f32 from StableHlo.after hostOps0_1 X (Proc.tc.devRef main_v35)) (ix1 k) = freq k := by
  after_reads_at
  after_reads_simp
  all_goals try simp -implicitDefEqProofs only [StableHlo.TRef.toBuf, StableHlo.TRef.ofBuf, cast_cast, cast_eq]
  rw [h0, h1]
  pointwise
  simp only [freq, ramp, sitofp_num _ (show k.val < 2^31 by omega), id, constant, Ideal.ofBits_def, Ideal.ofBits_zero_f32]
  split <;> rfl

/-- The mel points' table. -/
theorem melPts_at (X : Valuation τ sig (Elt Ideal)) (a b : EReal) (h0 : ∀ i, (show FVec Ideal S_ .f32 from X (Proc.tc.devRef main_v38)) i = a)
    (h1 : ∀ i, (show FVec Ideal S_ .f32 from X (Proc.tc.devRef main_v41)) i = b) (k : Fin 82) :
   (show FVec Ideal S82 .f32 from StableHlo.after hostOps0_3 X (Proc.tc.devRef main_v42)) (ix1 k) = ramp 81 0x42A20000#32 a b k := by
  after_reads_at
  after_reads_simp
  all_goals try simp -implicitDefEqProofs only [StableHlo.TRef.toBuf, StableHlo.TRef.ofBuf, cast_cast, cast_eq]
  pointwise
  simp only [ramp, sitofp_num _ (show k.val < 2^31 by omega), id, constant]
  rw [show X (Proc.tc.devRef main_v38) ix0 = a from h0 ix0, show X (Proc.tc.devRef main_v41) ix0 = b from h1 ix0]
  split <;> rfl

theorem melEnds_at (X : Valuation τ sig (Elt Ideal)) (i : S_.Idx) :
   (show FVec Ideal S_ .f32 from StableHlo.after hostOps0_2 X (Proc.tc.devRef main_v38)) i = melOf 1 ∧
   (show FVec Ideal S_ .f32 from StableHlo.after hostOps0_2 X (Proc.tc.devRef main_v41)) i = melOf (w32 0x4146DB6E#32) := by
  constructor <;> (after_reads_at; rfl)

/-- The filter bank's table. -/
theorem bank_at (X : Valuation τ sig (Elt Ideal)) (h0 : ∀ k : Fin 257, (show FVec Ideal S257 .f32 from X (Proc.tc.devRef main_v35)) (ix1 k) = freq k)
    (h1 : ∀ k : Fin 82, (show FVec Ideal S82 .f32 from X (Proc.tc.devRef main_v42)) (ix1 k) = melPt k) (k : Fin 257) (i : Fin 80) :
   (show FVec Ideal S257x80 .f32 from StableHlo.after hostOps0_5 (StableHlo.after hostOps0_4 X) (Proc.tc.devRef main_v71)) (ix2 k i) = bank k i := by
  after_reads_at
  have e1 : 1 + i.val = i.val + 1 := by omega
  have e2 : 2 + i.val = i.val + 2 := by omega
  have e4 : 1 + (i.val + 1) = i.val + 2 := by omega
  simp only [e1, e2, e4]
  rw [show X (Proc.tc.devRef main_v35) (ix1 k) = freq k from h0 k, show X (Proc.tc.devRef main_v42) (ix1 ⟨i.val, _⟩) = melPt i.val from h1 ⟨i.val, by omega⟩,
    show X (Proc.tc.devRef main_v42) (ix1 ⟨i.val + 1, _⟩) = melPt (i.val + 1) from h1 ⟨i.val + 1, by omega⟩,
    show X (Proc.tc.devRef main_v42) (ix1 ⟨i.val + 2, _⟩) = melPt (i.val + 2) from h1 ⟨i.val + 2, by omega⟩]
  simp only [bank, fpt, id, constant, Ideal.ofBits_def, Ideal.ofBits_zero_f32]

/-- The tables' cosines and sines. -/
theorem ap_at (X : Valuation τ sig (Elt Ideal)) (k : Fin 640) (i : Fin 512) :
   (show FVec Ideal S640x512 .bf16 from StableHlo.after hostOps0_8 (StableHlo.after hostOps0 X) (Proc.tc.devRef main_v97)) (ix2 k i)
    = if 64 ≤ k.val ∧ k.val < 576 then
        (if i.val < 256 then hann (k.val - 64) * Ideal.cos (ang (k.val - 64) (i.val + 1)) else hann (k.val - 64) * Ideal.sin (ang (k.val - 64) (i.val - 256 + 1)))
      else 0 := by
  after_reads_at
  after_reads_at
  rw [sitofp_num _ (show k.val - 64 < 2 ^ 31 by omega), sitofp_num _ (show i.val < 2 ^ 31 by omega),
    sitofp_num _ (show i.val - 256 < 2 ^ 31 by omega), one_add_num, one_add_num]
  by_cases h : k.val < 64
  · rw [dif_pos h, if_neg (by omega)]
  · rw [dif_neg h]
    by_cases h' : k.val - 64 < 512
    · rw [dif_pos h', if_pos (by omega)]
      split <;> rfl
    · rw [dif_neg h', if_neg (by omega)]

variable (m : (ℓ : Loc nD τ sig) → Buf (Elt Ideal) ℓ)

/-- The weights of the frames of a block: `b a^(i-k)` for frame `k` in the average at frame `i ≥ k`. -/
theorem lt_at (X : Valuation τ sig (Elt Ideal)) (k i : Fin 256) :
   (show FVec Ideal S256x256 .f32 from StableHlo.after hostOps0_8 (StableHlo.after hostOps0_7 (StableHlo.after hostOps0_6 X)) (Proc.tc.devRef main_v90)) (ix2 k i)
     = if k.val ≤ i.val then ((bR * aR ^ (i.val - k.val) : ℝ) : EReal) else 0 := by
  after_reads_at
  rw [sitofp_num _ (show k.val < 2 ^ 31 by omega), sitofp_num _ (show i.val < 2 ^ 31 by omega)]
  simp only [num_le, id, constant, Ideal.ofBits_def, Ideal.ofBits_zero_f32]
  split
  · rename_i h; rw [num_sub h, pow_num, EReal.coe_mul, ← ofBits_b]
  · rfl

/-- The weight of the average before the block at frame `i`: `a^(i+1)`. -/
theorem dt_at (X : Valuation τ sig (Elt Ideal)) (i : Fin 256) :
   (show FVec Ideal S1x256 .f32 from StableHlo.after hostOps0_8 (StableHlo.after hostOps0_7 (StableHlo.after hostOps0_6 X)) (Proc.tc.devRef main_v96)) (ix2 0 i)
     = ((aR ^ (i.val + 1) : ℝ) : EReal) := by
  after_reads_at
  rw [sitofp_num _ (show i.val < 2 ^ 31 by omega), add_comm, one_add_num, pow_num]

theorem rev_val {n : ℕ} {P : Prop} [Decidable P] (h : P) (a : Fin n) : (if P then a.rev else a).val = n - 1 - a.val := by
  rw [if_pos h, Fin.val_rev]; omega

/-- The edge rows: 1024 zeros, the first samples reflected, the last samples reflected, zeros. -/
theorem edges_at (X : Valuation τ sig (Elt Ideal)) (s : Fin 32) (k : Fin 16) (i : Fin 160) :
   (show FVec Ideal S32x16x160 .f32 from StableHlo.after hostOps0_8 X (Proc.tc.devRef main_v104)) (ix3 s k i) =
     if k.val * 160 + i.val < 1024 then 0 else if k.val * 160 + i.val < 1280 then wav (X (Proc.tc.devRef main_arg0)) s (1280 - (k.val * 160 + i.val))
     else if k.val * 160 + i.val < 1536 then wav (X (Proc.tc.devRef main_arg0)) s (961278 - (k.val * 160 + i.val)) else 0 := by
  after_reads_at
  after_reads_at
  by_cases h : k.val * 160 + i.val < 1024
  · rw [dif_pos h, if_pos h]
  rw [dif_neg h, if_neg h]
  by_cases h1 : k.val * 160 + i.val < 1280
  · rw [dif_pos (by omega), if_pos h1, wav, dif_pos (by omega)]
    refine congrArg _ (congrArg₂ ix2 (if_neg (by decide)) (Fin.ext ?_))
    refine (congrArg (fun z => 1 + z) (rev_val (List.mem_singleton.mpr rfl) _)).trans ?_
    show 1 + (256 - 1 - (k.val * 160 + i.val - 1024)) = 1280 - (k.val * 160 + i.val)
    omega
  rw [dif_neg (by omega), if_neg h1]
  by_cases h2 : k.val * 160 + i.val < 1536
  · rw [dif_pos (by omega), if_pos h2, wav, dif_pos (by omega)]
    refine congrArg _ (congrArg₂ ix2 (if_neg (by decide)) (Fin.ext ?_))
    refine (congrArg (fun z => 959743 + z) (rev_val (List.mem_singleton.mpr rfl) _)).trans ?_
    show 959743 + (256 - 1 - (k.val * 160 + i.val - 1024 - 256)) = 961278 - (k.val * 160 + i.val)
    omega
  · rw [dif_neg (by omega), if_neg h2]

/-- The samples in rows of 160. -/
theorem rows_at (X : Valuation τ sig (Elt Ideal)) (s : Fin 32) (k : Fin 6000) (i : Fin 160) :
   (show FVec Ideal S32x6000x160 .f32 from StableHlo.after hostOps0 X (Proc.tc.devRef main_v0)) (ix3 s k i) = wav (X (Proc.tc.devRef main_arg0)) s (160 * k.val + i.val) := by
  after_reads_at
  rw [wav, dif_pos (by omega)]
  simp only [mul_comm]

/-- The contents at the launch, block of host operations by block. -/
theorem V_eq (c : Dev nD) (b : Ref sig .tc) : V m c b =
    StableHlo.after hostOps0_8 (StableHlo.after hostOps0_7 (StableHlo.after hostOps0_6 (StableHlo.after hostOps0_5 (StableHlo.after hostOps0_4
      (StableHlo.after hostOps0_3 (StableHlo.after hostOps0_2 (StableHlo.after hostOps0_1 (StableHlo.after hostOps0 (fun b => m (c, b))))))))))
      (Proc.tc.devRef b) := by
  unfold V
  simp only [List.flatten_cons, List.flatten_nil, List.append_nil, StableHlo.after_append]

theorem V_lt (c : Dev nD) (k i : Fin 256) : (show FVec Ideal S256x256 .f32 from V m c main_v90) (ix2 k i)
     = if k.val ≤ i.val then ((bR * aR ^ (i.val - k.val) : ℝ) : EReal) else 0 := by
  rw [V_eq]; exact lt_at _ k i

theorem V_dt (c : Dev nD) (i : Fin 256) : (show FVec Ideal S1x256 .f32 from V m c main_v96) (ix2 0 i) = ((aR ^ (i.val + 1) : ℝ) : EReal) := by
  rw [V_eq]; exact dt_at _ i

theorem V_fbt (c : Dev nD) (i : Fin 80) (k : Fin 256) : (show FVec Ideal S80x256 .f32 from V m c main_v73) (ix2 i k) = bank (k.val + 1) i := by
  rw [V_eq]
  refine (?_ : _ = (show FVec Ideal S257x80 .f32 from StableHlo.after hostOps0_5 (StableHlo.after hostOps0_4
      (StableHlo.after hostOps0_3 (StableHlo.after hostOps0_2 (StableHlo.after hostOps0_1 (StableHlo.after hostOps0 (fun b => m (c, b)))))))
      (Proc.tc.devRef main_v71)) (ix2 ⟨k.val + 1, by omega⟩ i)).trans (bank_at _ ?_ ?_ _ i)
  · generalize StableHlo.after (hostOps0_5 (F := Ideal)) _ = X
    after_reads_at
    exact congrArg _ (congrArg₂ ix2 (Fin.ext (Nat.add_comm _ _)) rfl)
  · intro k
    refine (?_ : _ = (show FVec Ideal S257 .f32 from StableHlo.after hostOps0_1 (StableHlo.after hostOps0 (fun b => m (c, b))) (Proc.tc.devRef main_v35)) (ix1 k)).trans
      (freqs_at _ ?_ ?_ k)
    · generalize StableHlo.after (hostOps0_1 (F := Ideal)) _ = X
      after_reads_simp
    · after_reads_simp
    · after_reads_simp
  · intro k
    exact melPts_at _ _ _ (fun i => (melEnds_at _ i).1) (fun i => (melEnds_at _ i).2) k

theorem V_ap (c : Dev nD) (k : Fin 640) (i : Fin 512) : (show FVec Ideal S640x512 .bf16 from V m c main_v97) (ix2 k i)
    = if 64 ≤ k.val ∧ k.val < 576 then
        (if i.val < 256 then hann (k.val - 64) * Ideal.cos (ang (k.val - 64) (i.val + 1)) else hann (k.val - 64) * Ideal.sin (ang (k.val - 64) (i.val - 256 + 1)))
      else 0 := by
  rw [V_eq]
  refine (?_ : _ = _).trans (ap_at (fun b => m (c, b)) k i)
  generalize StableHlo.after (hostOps0 (F := Ideal)) _ = X
  after_reads_simp

theorem V_edges (c : Dev nD) (s : Fin 32) (k : Fin 16) (i : Fin 160) :
   (show FVec Ideal S32x16x160 .f32 from V m c main_v104) (ix3 s k i) =
     if k.val * 160 + i.val < 1024 then 0 else if k.val * 160 + i.val < 1280 then wav (m (c, Proc.tc.devRef main_arg0)) s (1280 - (k.val * 160 + i.val))
     else if k.val * 160 + i.val < 1536 then wav (m (c, Proc.tc.devRef main_arg0)) s (961278 - (k.val * 160 + i.val)) else 0 := by
  rw [V_eq]
  refine (edges_at _ s k i).trans ?_
  after_reads_simp

theorem V_rows (c : Dev nD) (s : Fin 32) (k : Fin 6000) (i : Fin 160) :
   (show FVec Ideal S32x6000x160 .f32 from V m c main_v0) (ix3 s k i) = wav (m (c, Proc.tc.devRef main_arg0)) s (160 * k.val + i.val) := by
  rw [V_eq]
  refine (?_ : _ = _).trans (rows_at (fun b => m (c, b)) s k i)
  generalize StableHlo.after (hostOps0 (F := Ideal)) _ = X
  after_reads_simp

end Cert.KernelIdeal.Block
-- ==== Proof.Points.lean ====
/- THE KERNEL'S ARRAY. Grid point `t` is chunk `t % 6` of signal `t / 6`: its staged blocks are that signal's rows and the
   tables, what it leaves follows the running average from chunk to chunk, and the blocks it writes make up the result. -/
module

public import proofs.«01_k».proof.Proof.Tile
public import proofs.«01_k».proof.Proof.KTables
public import proofs.«01_k».proof.Proof.Gen.KernelIdeal.Value

@[expose] public section

set_option maxRecDepth 16384

noncomputable section

namespace Cert.KernelIdeal.Block

open Cert.KernelIdeal Cert.KernelIdeal.Gen Cert.Pcen Idealize.ShloMosaic Idealize.ShloMosaic.TcCoe
open Idealize.ShloMosaic.Pipeline (Dat)

variable (m : (ℓ : Loc nD τ sig) → Buf (Elt Ideal) ℓ)

theorem idx : ∀ t : Fin cfg0.N, win0_0.index t = ![t.val / 6, 0, 0] ∧ win0_1.index t = ![t.val / 6, 0, 0] ∧ win0_2.index t = ![0, 0]
    ∧ win0_3.index t = ![0, 0] ∧ win0_4.index t = ![0, 0] ∧ win0_5.index t = ![0, 0] ∧ win0_6.index t = ![t.val / 6, 0, t.val % 6] :=
  (by decide +kernel : ∀ t : Fin grid0.N, _)

theorem chunk : ∀ t : Fin cfg0.N, (grid0.coords t 1).val = t.val % 6 := (by decide +kernel : ∀ t : Fin grid0.N, _)

/-- The signal that grid point `t` works on. -/
def sigOf (c : Dev nD) (t : Fin cfg0.N) : ℕ → EReal :=
  wav (m (c, Proc.tc.devRef main_arg0)) ⟨t.val / 6, by have : t.val < 192 := t.isLt; omega⟩

/- The six staged blocks, at their shapes. -/
def X0 (c : Dev nD) (t : Fin cfg0.N) : FVec Ideal S1x6000x160 .f32 := iblk m c 0 t
def X1 (c : Dev nD) (t : Fin cfg0.N) : FVec Ideal S1x16x160 .f32 := iblk m c 1 t
def X2 (c : Dev nD) (t : Fin cfg0.N) : FVec Ideal S640x512 .bf16 := iblk m c 2 t
def X3 (c : Dev nD) (t : Fin cfg0.N) : FVec Ideal S80x256 .f32 := iblk m c 3 t
def X4 (c : Dev nD) (t : Fin cfg0.N) : FVec Ideal S256x256 .f32 := iblk m c 4 t
def X5 (c : Dev nD) (t : Fin cfg0.N) : FVec Ideal S1x256 .f32 := iblk m c 5 t

theorem X0_at (c : Dev nD) (t : Fin cfg0.N) (k : Fin 6000) (l : Fin 160) :
    X0 m c t (ix3 0 k l) = (show FVec Ideal S32x6000x160 .f32 from V m c main_v0) (ix3 (⟨t.val / 6, by have : t.val < 192 := t.isLt; omega⟩ : Fin 32) k l) := by
  unfold X0; blk_ext [iblk, idx t]

theorem X1_at (c : Dev nD) (t : Fin cfg0.N) (k : Fin 16) (l : Fin 160) :
    X1 m c t (ix3 0 k l) = (show FVec Ideal S32x16x160 .f32 from V m c main_v104) (ix3 (⟨t.val / 6, by have : t.val < 192 := t.isLt; omega⟩ : Fin 32) k l) := by
  unfold X1; blk_ext [iblk, idx t]

theorem X2_at (c : Dev nD) (t : Fin cfg0.N) (k : Fin 640) (i : Fin 512) :
    X2 m c t (ix2 k i) = (show FVec Ideal S640x512 .bf16 from V m c main_v97) (ix2 k i) := by
  unfold X2; blk_ext [iblk, idx t]

theorem X3_at (c : Dev nD) (t : Fin cfg0.N) (i : Fin 80) (k : Fin 256) :
    X3 m c t (ix2 i k) = (show FVec Ideal S80x256 .f32 from V m c main_v73) (ix2 i k) := by
  unfold X3; blk_ext [iblk, idx t]

theorem X4_at (c : Dev nD) (t : Fin cfg0.N) (k i : Fin 256) :
    X4 m c t (ix2 k i) = (show FVec Ideal S256x256 .f32 from V m c main_v90) (ix2 k i) := by
  unfold X4; blk_ext [iblk, idx t]

theorem X5_at (c : Dev nD) (t : Fin cfg0.N) (i : Fin 256) :
    X5 m c t (ix2 0 i) = (show FVec Ideal S1x256 .f32 from V m c main_v96) (ix2 0 i) := by
  unfold X5; blk_ext [iblk, idx t]

theorem staged (c : Dev nD) (t : Fin cfg0.N) :
    Staged (sigOf m c t) (X0 m c t) (X1 m c t) (X2 m c t) (X3 m c t) (X4 m c t) (X5 m c t) where
  rows k l := (X0_at m c t k l).trans (V_rows m c (⟨t.val / 6, by have : t.val < 192 := t.isLt; omega⟩ : Fin 32) k l)
  edges k l := (X1_at m c t k l).trans (V_edges m c (⟨t.val / 6, by have : t.val < 192 := t.isLt; omega⟩ : Fin 32) k l)
  waves k i := (X2_at m c t k i).trans (V_ap m c k i)
  filters i k := (X3_at m c t i k).trans (V_fbt m c i k)
  weights k i := (X4_at m c t k i).trans (V_lt m c k i)
  decay i := (X5_at m c t i).trans (V_dt m c i)

/-- What a point leaves, over the state before it. -/
def leaves (c : Dev nD) (t : Fin cfg0.N) (s : FVec Ideal S80x1 .f32) : Prop :=
  (∀ y, (show FVec Ideal S1x80x1024 .f32 from (outsAt0 m c t.val t.isLt).1) y = blockOut (tiles (X0 m c t) (X1 m c t) (X2 m c t) (X3 m c t) (grid0.coords t 1).val) (X4 m c t) (X5 m c t) s y)
    ∧ ∀ y, (show FVec Ideal S80x1 .f32 from (outsAt0 m c t.val t.isLt).2) y = carry (tiles (X0 m c t) (X1 m c t) (X2 m c t) (X3 m c t) (grid0.coords t 1).val) (X4 m c t) (X5 m c t) s 4 y

theorem leaves_first (c : Dev nD) (t : Fin cfg0.N) (h : t.val % 6 = 0) :
    leaves m c t (firstCol (tiles (X0 m c t) (X1 m c t) (X2 m c t) (X3 m c t) (grid0.coords t 1).val 0)) :=
  ⟨fun y => (congrFun (congrArg Prod.fst (outsAt0_A m c t h (by omega) (by omega) (by omega) h)) y).trans (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr (by omega)) (fun e => absurd ((hcond0_1 t).mp e) (by omega)) (fun e => absurd ((hcond0_2 t).mp e) (by omega)) ((hcond0_3 t).mpr (by omega)) ((hcond0_4 t).mpr (by omega)) (X0 m c t) (X1 m c t) (X2 m c t) (X3 m c t) (X4 m c t) (X5 m c t) y), fun y => (congrFun (congrArg Prod.snd (outsAt0_A m c t h (by omega) (by omega) (by omega) h)) y).trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr (by omega)) (fun e => absurd ((hcond0_1 t).mp e) (by omega)) (fun e => absurd ((hcond0_2 t).mp e) (by omega)) ((hcond0_3 t).mpr (by omega)) ((hcond0_4 t).mpr (by omega)) (X0 m c t) (X1 m c t) (X2 m c t) (X3 m c t) (X4 m c t) (X5 m c t) y)⟩

theorem leaves_mid (c : Dev nD) (t : Fin cfg0.N) (h : ¬ t.val % 6 = 0) (h5 : ¬ t.val % 6 = 5) :
    leaves m c t (outsAt0 m c (t.val - 1) (Nat.lt_of_le_of_lt (Nat.sub_le _ _) t.isLt)).2 :=
  ⟨fun y => (congrFun (congrArg Prod.fst (outsAt0_B m c t h (by omega) h5 (by omega) h)) y).trans (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun e => absurd ((hcond0_0 t).mp e) (by omega)) ((hcond0_1 t).mpr (by omega)) (fun e => absurd ((hcond0_2 t).mp e) (by omega)) ((hcond0_3 t).mpr (by omega)) (fun e => absurd ((hcond0_4 t).mp e) (by omega)) (X0 m c t) (X1 m c t) (X2 m c t) (X3 m c t) (X4 m c t) (X5 m c t) (outsAt0 m c (t.val - 1) (Nat.lt_of_le_of_lt (Nat.sub_le _ _) t.isLt)).2 y), fun y => (congrFun (congrArg Prod.snd (outsAt0_B m c t h (by omega) h5 (by omega) h)) y).trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun e => absurd ((hcond0_0 t).mp e) (by omega)) ((hcond0_1 t).mpr (by omega)) (fun e => absurd ((hcond0_2 t).mp e) (by omega)) ((hcond0_3 t).mpr (by omega)) (fun e => absurd ((hcond0_4 t).mp e) (by omega)) (X0 m c t) (X1 m c t) (X2 m c t) (X3 m c t) (X4 m c t) (X5 m c t) (outsAt0 m c (t.val - 1) (Nat.lt_of_le_of_lt (Nat.sub_le _ _) t.isLt)).2 y)⟩

theorem leaves_last (c : Dev nD) (t : Fin cfg0.N) (h : ¬ t.val % 6 = 0) (h5 : t.val % 6 = 5) :
    leaves m c t (outsAt0 m c (t.val - 1) (Nat.lt_of_le_of_lt (Nat.sub_le _ _) t.isLt)).2 :=
  ⟨fun y => (congrFun (congrArg Prod.fst (outsAt0_C m c t h (by omega) h5 (by omega) h)) y).trans (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun e => absurd ((hcond0_0 t).mp e) (by omega)) ((hcond0_1 t).mpr (by omega)) ((hcond0_2 t).mpr (by omega)) (fun e => absurd ((hcond0_3 t).mp e) (by omega)) (fun e => absurd ((hcond0_4 t).mp e) (by omega)) (X0 m c t) (X1 m c t) (X2 m c t) (X3 m c t) (X4 m c t) (X5 m c t) (outsAt0 m c (t.val - 1) (Nat.lt_of_le_of_lt (Nat.sub_le _ _) t.isLt)).2 y), fun y => (congrFun (congrArg Prod.snd (outsAt0_C m c t h (by omega) h5 (by omega) h)) y).trans (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun e => absurd ((hcond0_0 t).mp e) (by omega)) ((hcond0_1 t).mpr (by omega)) ((hcond0_2 t).mpr (by omega)) (fun e => absurd ((hcond0_3 t).mp e) (by omega)) (fun e => absurd ((hcond0_4 t).mp e) (by omega)) (X0 m c t) (X1 m c t) (X2 m c t) (X3 m c t) (X4 m c t) (X5 m c t) (outsAt0 m c (t.val - 1) (Nat.lt_of_le_of_lt (Nat.sub_le _ _) t.isLt)).2 y)⟩

/-- Each point leaves what follows from a right state. -/
theorem point (c : Dev nD) : ∀ (n : ℕ) (hn : n < cfg0.N), ∃ s : FVec Ideal S80x1 .f32,
    leaves m c ⟨n, hn⟩ s ∧ ∀ b : Fin 80, s (ix2 b 0) = start (sigOf m c ⟨n, hn⟩) b (1024 * (grid0.coords ⟨n, hn⟩ 1).val) := by
  intro n
  induction n using Nat.strong_induction_on with
  | _ n ih =>
    intro hn
    have hq : (grid0.coords ⟨n, hn⟩ 1).val = n % 6 := chunk ⟨n, hn⟩
    by_cases h : n % 6 = 0
    · refine ⟨_, leaves_first m c ⟨n, hn⟩ h, fun b => ?_⟩
      refine (mels_at (staged m c ⟨n, hn⟩) (1024 * (grid0.coords ⟨n, hn⟩ 1).val + 256 * 0) b ⟨0, by decide⟩ (by rw [hq, h]; decide)).trans ?_
      rw [hq, h]; rfl
    · have hp : n - 1 < cfg0.N := Nat.lt_of_le_of_lt (Nat.sub_le _ _) hn
      have hq' : (grid0.coords ⟨n - 1, hp⟩ 1).val = (n - 1) % 6 := chunk ⟨n - 1, hp⟩
      refine ⟨(outsAt0 m c (n - 1) hp).2, ?_, fun b => ?_⟩
      · by_cases h5 : n % 6 = 5
        · exact leaves_last m c ⟨n, hn⟩ h h5
        · exact leaves_mid m c ⟨n, hn⟩ h h5
      obtain ⟨s, hl, hs⟩ := ih (n - 1) (by omega) hp
      have e : sigOf m c ⟨n - 1, hp⟩ = sigOf m c ⟨n, hn⟩ := by
        unfold sigOf
        exact congrArg _ (Fin.ext (by show (n - 1) / 6 = n / 6; omega))
      refine (hl.2 (ix2 b 0)).trans ((carry_at (staged m c ⟨n - 1, hp⟩) _ s hs b 4 (by rw [hq']; omega)).trans ?_)
      rw [e, hq, hq']
      exact congrArg _ (by omega)

/-- What point `t` writes at a frame that exists. -/
theorem point_out (c : Dev nD) (t : Fin cfg0.N) (b : Fin 80) (i : Fin 1024) (hi : 1024 * (t.val % 6) + i.val ≤ 6000) :
    (show FVec Ideal S1x80x1024 .f32 from (outsAt0 m c t.val t.isLt).1) (ix3 0 b i)
      = pcen1 (energy (sigOf m c t) b (1024 * (t.val % 6) + i.val)) (avg (energy (sigOf m c t) b) (1024 * (t.val % 6) + i.val)) := by
  obtain ⟨s, hl, hs⟩ := point m c t.val t.isLt
  refine (hl.1 _).trans ((blockOut_at (staged m c t) _ s hs b i (by rw [chunk t]; exact hi)).trans ?_)
  rw [chunk t]

/-- The kernel's result: the compressed ratio of each frame's energy to the running average there. -/
def result (A : FVec Ideal S32x960000 .f32) : FVec Ideal S32x80x6001 .f32 := fun j =>
  pcen1 (energy (wav A (j 0)) (j 1) (j 2).val) (avg (energy (wav A (j 0)) (j 1)) (j 2).val)

theorem final (c : Dev nD) : (dats m 0 c).arrAt 6 cfg0.N = result (m (c, Proc.tc.devRef main_arg0)) := by
  refine (dats m 0 c).arrAt_eq_of_covers 6 _ (by decide +kernel) fun t _ y => ?_
  blk_simp
  rw [after0_6]
  have hz : ∀ z : S1x80x1024.Idx, (z 0).val = (y 0).val → (z 1).val = (y 1).val → (z 2).val = (y 2).val → (show FVec Ideal S1x80x1024 .f32 from (outsAt0 m c t.val t.isLt).1) z
      = result (m (c, Proc.tc.devRef main_arg0)) ((win0_6.blk t).view.emb y) := by
    intro z e0 e1 e2
    have h0 : ((win0_6.blk t).view.emb y 0 : ℕ) = t.val / 6 := by
      have := (z 0).isLt
      have : (z 0).val < 1 := this
      blk_simp [idx t]; omega
    have h1 : ((win0_6.blk t).view.emb y 1 : ℕ) = (z 1).val := by
      rw [e1]; blk_simp [idx t]
    have h2 : ((win0_6.blk t).view.emb y 2 : ℕ) = 1024 * (t.val % 6) + (z 2).val := by
      rw [e2]; blk_simp [idx t]; omega
    have hb : ((win0_6.blk t).view.emb y 2 : ℕ) < 6001 := ((win0_6.blk t).view.emb y 2).isLt
    generalize (win0_6.blk t).view.emb y = j at h0 h1 h2 hb ⊢
    have e : z = ix3 0 (z 1) (z 2) := by
      refine (eq_ix3 (n0 := 1) (n1 := 80) (n2 := 1024) z).trans (congrArg (fun k : Fin 1 => ix3 k (z 1) (z 2)) (Subsingleton.elim _ _))
    rw [e]
    refine (point_out m c t (z 1) (z 2) (by omega)).trans ?_
    have ej : (⟨t.val / 6, by have : t.val < 192 := t.isLt; omega⟩ : Fin 32) = j 0 := Fin.ext h0.symm
    unfold sigOf result
    rw [ej, ← h2, ← h1]
  exact hz _ rfl rfl rfl

end Cert.KernelIdeal.Block
-- ==== Proof.RTables.lean ====
/- THE REFERENCE'S TABLES. The reference's host operations up to its filter bank, read at an index: the padded signal, the frames,
   the window, the cosines and sines, and the bank are those of the specification. -/
module

public import proofs.«01_k».proof.Proof.Gen.ReferenceIdeal.Run
public import Idealize.ShloMosaic.Lib.Pipeline.ValueKit
public import Idealize.ShloMosaic.Lib.Pointwise
public import proofs.«01_k».proof.Proof.Spec
public import Idealize.ShloMosaic.Lib.Claim
public import Idealize.ShloMosaic.Lib.StableHlo.ReadAt

@[expose] public section

set_option maxRecDepth 16384

noncomputable section

namespace Cert.ReferenceIdeal.Val

open Cert.ReferenceIdeal Cert.ReferenceIdeal.Gen Cert.ReferenceIdeal.Value Cert.Pcen Idealize.ShloMosaic Idealize.ShloMosaic.TcCoe

/-- The frequencies' table. -/
theorem freqs_at (X : Valuation τ sig (Elt Ideal)) (h0 : X (Proc.tc.devRef main_cst_8) = constant (F := Ideal) S_ .f32 0x00000000#32)
    (h1 : X (Proc.tc.devRef main_cst_9) = constant (F := Ideal) S_ .f32 0x45FA0000#32) (k : Fin 257) :
   (show FVec Ideal S257 .f32 from StableHlo.after hostOps0_3 X (Proc.tc.devRef main_v55)) (ix1 k) = freq k := by
  after_reads_at
  after_reads_simp
  all_goals try simp -implicitDefEqProofs only [StableHlo.TRef.toBuf, StableHlo.TRef.ofBuf, cast_cast, cast_eq]
  rw [h0, h1]
  pointwise
  simp only [freq, ramp, sitofp_num _ (show k.val < 2^31 by omega), id, constant, Ideal.ofBits_def, Ideal.ofBits_zero_f32]
  split <;> rfl

/-- The mel points' table. -/
theorem melPts_at (X : Valuation τ sig (Elt Ideal)) (a b : EReal) (h0 : ∀ i, (show FVec Ideal S_ .f32 from X (Proc.tc.devRef main_v58)) i = a)
    (h1 : ∀ i, (show FVec Ideal S_ .f32 from X (Proc.tc.devRef main_v61)) i = b) (k : Fin 82) :
   (show FVec Ideal S82 .f32 from StableHlo.after hostOps0_5 X (Proc.tc.devRef main_v62)) (ix1 k) = ramp 81 0x42A20000#32 a b k := by
  after_reads_at
  after_reads_simp
  all_goals try simp -implicitDefEqProofs only [StableHlo.TRef.toBuf, StableHlo.TRef.ofBuf, cast_cast, cast_eq]
  pointwise
  simp only [ramp, sitofp_num _ (show k.val < 2^31 by omega), id, constant]
  rw [show X (Proc.tc.devRef main_v58) ix0 = a from h0 ix0, show X (Proc.tc.devRef main_v61) ix0 = b from h1 ix0]
  split <;> rfl

/-- The two ends of the mel scale. -/
theorem melEnds_at (X : Valuation τ sig (Elt Ideal)) (i : S_.Idx) :
   (show FVec Ideal S_ .f32 from StableHlo.after hostOps0_4 X (Proc.tc.devRef main_v58)) i = melOf 1 ∧
   (show FVec Ideal S_ .f32 from StableHlo.after hostOps0_4 X (Proc.tc.devRef main_v61)) i = melOf (w32 0x4146DB6E#32) := by
  constructor <;> (after_reads_at; rfl)

/-- The filter bank's table. -/
theorem bank_at (X : Valuation τ sig (Elt Ideal)) (h0 : ∀ k : Fin 257, (show FVec Ideal S257 .f32 from X (Proc.tc.devRef main_v55)) (ix1 k) = freq k)
    (h1 : ∀ k : Fin 82, (show FVec Ideal S82 .f32 from X (Proc.tc.devRef main_v62)) (ix1 k) = melPt k) (k : Fin 257) (i : Fin 80) :
   (show FVec Ideal S257x80 .f32 from StableHlo.after hostOps0_7 (StableHlo.after hostOps0_6 X) (Proc.tc.devRef main_v91)) (ix2 k i) = bank k i := by
  after_reads_at
  have e1 : 1 + i.val = i.val + 1 := by omega
  have e2 : 2 + i.val = i.val + 2 := by omega
  have e4 : 1 + (i.val + 1) = i.val + 2 := by omega
  simp only [e1, e2, e4]
  rw [show X (Proc.tc.devRef main_v55) (ix1 k) = freq k from h0 k, show X (Proc.tc.devRef main_v62) (ix1 ⟨i.val, _⟩) = melPt i.val from h1 ⟨i.val, by omega⟩,
    show X (Proc.tc.devRef main_v62) (ix1 ⟨i.val + 1, _⟩) = melPt (i.val + 1) from h1 ⟨i.val + 1, by omega⟩,
    show X (Proc.tc.devRef main_v62) (ix1 ⟨i.val + 2, _⟩) = melPt (i.val + 2) from h1 ⟨i.val + 2, by omega⟩]
  simp only [bank, fpt, id, constant, Ideal.ofBits_def, Ideal.ofBits_zero_f32]

theorem rev_val {n : ℕ} {P : Prop} [Decidable P] (h : P) (a : Fin n) : (if P then a.rev else a).val = n - 1 - a.val := by
  rw [if_pos h, Fin.val_rev]; omega

/-- The samples of signal `s`, zero past its end. -/
def wav (A : FVec Ideal S32x960000 .f32) (s : Fin 32) (n : ℕ) : EReal := if h : n < 960000 then A (ix2 s ⟨n, h⟩) else 0

theorem pad_left (u : FVec Ideal S32x256 .f32) (v : FVec Ideal S32x960000 .f32) (s : Fin 32) (p : Fin 960256) :
   concatenate S32x960256 1 [⟨S32x256, u⟩, ⟨S32x960000, v⟩] concatenates_S32x256_S32x960000_S32x960256_d1 (ix2 s p)
    = if h : p.val < 256 then u (ix2 s ⟨p, h⟩) else v (ix2 s ⟨p.val - 256, by omega⟩) := by
  pointwise

theorem pad_right (u : FVec Ideal S32x960256 .f32) (v : FVec Ideal S32x256 .f32) (s : Fin 32) (p : Fin 960512) :
   concatenate S32x960512 1 [⟨S32x960256, u⟩, ⟨S32x256, v⟩] concatenates_S32x960256_S32x256_S32x960512_d1 (ix2 s p)
    = if h : p.val < 960256 then u (ix2 s ⟨p, h⟩) else v (ix2 s ⟨p.val - 960256, by omega⟩) := by
  pointwise

theorem last_slice (u : FVec Ideal S32x960256 .f32) (s : Fin 32) (p : Fin 256) :
   extractStridedSlice S32x256 ![0, 959999] u slices_S32x960256_S32x256_0_959999 (ix2 s p)
    = u (ix2 s ⟨959999 + p.val, by omega⟩) := by
  pointwise

theorem first_slice (u : FVec Ideal S32x960000 .f32) (s : Fin 32) (p : Fin 256) :
   extractStridedSlice S32x256 ![0, 1] u slices_S32x960000_S32x256_0_1 (ix2 s p)
    = u (ix2 s ⟨1 + p.val, by omega⟩) := by
  pointwise

theorem rev_at (u : FVec Ideal S32x256 .f32) (s : Fin 32) (p : Fin 256) :
   Host.reverse [1] u (ix2 s p) = u (ix2 s ⟨255 - p.val, by omega⟩) := by
  have e : (if (0 : ℕ) ∈ [1] then s.rev else s) = s := if_neg (by decide)
  have e' : (if (1 : ℕ) ∈ [1] then p.rev else p) = ⟨255 - p.val, by omega⟩ :=
    Fin.ext ((rev_val (List.mem_singleton.mpr rfl) p).trans (show 256 - 1 - p.val = 255 - p.val from rfl))
  pointwise
  exact congrArg u (congrArg₂ ix2 e e')

/-- The padded signal. -/
theorem pad_at (X : Valuation τ sig (Elt Ideal)) (s : Fin 32) (p : Fin 960512) :
   (show FVec Ideal S32x960512 .f32 from StableHlo.after hostOps0_1 X (Proc.tc.devRef main_v0)) (ix2 s p)
    = Cert.Pcen.pad (wav (X (Proc.tc.devRef main_arg0)) s) p := by
  after_reads_simp
  all_goals try simp -implicitDefEqProofs only [StableHlo.TRef.toBuf, StableHlo.TRef.ofBuf, cast_cast, cast_eq]
  after_reads_simp
  all_goals try simp -implicitDefEqProofs only [StableHlo.TRef.toBuf, StableHlo.TRef.ofBuf, cast_cast, cast_eq]
  have hv : (show FVec Ideal S32x960000 .f32 from StableHlo.upto hostOps0_1 X 3 (Proc.tc.devRef main_arg0)) = X (Proc.tc.devRef main_arg0) := by
    after_reads_simp
  have hu : (show FVec Ideal S32x256 .f32 from StableHlo.upto hostOps0_1 X 3 (Proc.tc.devRef main_call0_v2))
      = Host.reverse [1] (extractStridedSlice S32x256 ![0, 1] (show FVec Ideal S32x960000 .f32 from X (Proc.tc.devRef main_arg0)) slices_S32x960000_S32x256_0_1) := by
    after_reads_simp; rfl
  refine (pad_right _ _ s p).trans ?_
  unfold Cert.Pcen.pad
  by_cases h1 : p.val < 256
  · rw [dif_pos (show p.val < 960256 by omega), if_pos h1, wav, dif_pos (show 256 - p.val < 960000 by omega)]
    refine (pad_left _ _ s _).trans ((dif_pos h1).trans ?_)
    refine (congrFun hu _).trans ((rev_at _ s _).trans ((first_slice _ s _).trans ?_))
    exact congrArg _ (congrArg (ix2 s) (Fin.ext (show 1 + (255 - p.val) = 256 - p.val by omega)))
  by_cases h2 : p.val < 960256
  · rw [dif_pos h2, if_neg h1, if_pos h2, wav, dif_pos (show p.val - 256 < 960000 by omega)]
    exact (pad_left _ _ s _).trans ((dif_neg h1).trans (congrFun hv _))
  · rw [dif_neg h2, if_neg h1, if_neg h2, wav, dif_pos (show 1920254 - p.val < 960000 by omega)]
    refine (rev_at _ s _).trans ((last_slice _ s _).trans ((pad_left _ _ s _).trans ((dif_neg ?_).trans ((congrFun hv _).trans ?_))))
    · show ¬ 959999 + (255 - (p.val - 960256)) < 256
      omega
    exact congrArg _ (congrArg (ix2 s) (Fin.ext (show 959999 + (255 - (p.val - 960256)) - 256 = 1920254 - p.val by omega)))

end Cert.ReferenceIdeal.Val
-- ==== Proof.Laws.lean ====
/- THE LAWS the comparison rests on: which values are nonnegative, and the laws of the square root, the exponential and the power
   at nonnegative extended reals, the infinity included. -/
module

public import proofs.«01_k».proof.Proof.Average

@[expose] public section

noncomputable section

namespace Cert.Pcen

open Idealize.ShloMosaic

theorem mul_self_nonneg' (a : EReal) : 0 ≤ a * a := by
  rcases le_total 0 a with h | h
  · exact EReal.mul_nonneg h h
  · have := EReal.mul_nonneg (EReal.neg_nonneg.mpr h) (EReal.neg_nonneg.mpr h)
    rwa [neg_mul, mul_neg, neg_neg] at this

theorem neg_mul_neg' (a : EReal) : -a * -a = a * a := by
  rw [neg_mul, mul_neg, neg_neg]

theorem power_nonneg (x : ℕ → EReal) (t k : ℕ) : 0 ≤ power x t k :=
  add_nonneg (mul_self_nonneg' _) (mul_self_nonneg' _)

/-- A nonnegative number is the square of its root. -/
theorem sqrt_sq {p : EReal} (h : 0 ≤ p) : Ideal.sqrt p * Ideal.sqrt p = p := by
  induction p using EReal.rec with
  | bot => exact absurd h (by simp)
  | top => exact EReal.top_mul_top
  | coe r =>
    have hr : 0 ≤ r := EReal.coe_nonneg.mp h
    have e : Ideal.sqrt (r : EReal) = (Real.sqrt r : EReal) := if_neg (not_lt.mpr hr)
    rw [e, ← EReal.coe_mul, Real.mul_self_sqrt hr]

/-- The exponential undoes the logarithm of a positive number. -/
theorem exp_log {y : EReal} (h : 0 < y) : Ideal.exp (Ideal.log y) = y := by
  induction y using EReal.rec with
  | bot => exact absurd h (by simp)
  | top => rfl
  | coe r =>
    have hr : 0 < r := EReal.coe_pos.mp h
    have e : Ideal.log (r : EReal) = (Real.log r : EReal) := if_neg (not_le.mpr hr)
    rw [e]
    exact congrArg Real.toEReal (Real.exp_log hr)

theorem w_half : w32 0x3F000000#32 = ((1 / 2 : ℝ) : EReal) := by
  simp [Ideal.ofBits, Ideal.ieee, -EReal.coe_mul]; norm_num

theorem w_two : w32 0x40000000#32 = ((2 : ℝ) : EReal) := by
  simp [Ideal.ofBits, Ideal.ieee, -EReal.coe_mul]; norm_num

theorem w_alpha : w32 0x3F7AE148#32 = ((2055209 / 2097152 : ℝ) : EReal) := by
  simp [Ideal.ofBits, Ideal.ieee, -EReal.coe_mul]; norm_num

theorem w_neg_alpha : w32 0xBF7AE148#32 = ((-(2055209 / 2097152) : ℝ) : EReal) := by
  simp [Ideal.ofBits, Ideal.ieee, -EReal.coe_mul]; norm_num

theorem w_tiny : 0 < w32 0x3089705F#32 := by
  have : w32 0x3089705F#32 = ((9007199 / 9007199254740992 : ℝ) : EReal) := by
    simp [Ideal.ofBits, Ideal.ieee, -EReal.coe_mul]; norm_num
  rw [this]; exact EReal.coe_pos.mpr (by norm_num)

theorem w_eps : 0 < w32 0x358637BD#32 := by
  have : w32 0x358637BD#32 = ((8796093 / 8796093022208 : ℝ) : EReal) := by
    simp [Ideal.ofBits, Ideal.ieee, -EReal.coe_mul]; norm_num
  rw [this]; exact EReal.coe_pos.mpr (by norm_num)

/-- The power one half is the square root. -/
theorem pow_half {u : EReal} (h : 0 ≤ u) : Ideal.pow u (w32 0x3F000000#32) = Ideal.sqrt u := by
  rw [w_half]
  induction u using EReal.rec with
  | bot => exact absurd h (by simp)
  | top => exact if_pos (EReal.coe_pos.mpr (by norm_num))
  | coe r =>
    have hr : 0 ≤ r := EReal.coe_nonneg.mp h
    have e : Ideal.sqrt (r : EReal) = (Real.sqrt r : EReal) := if_neg (not_lt.mpr hr)
    rw [e, Real.sqrt_eq_rpow]
    rfl

/-- Dividing by a power is multiplying by the exponential of minus the exponent times the logarithm. -/
theorem div_pow (x : EReal) {s : EReal} (h : 0 < s) :
    Ideal.div x (Ideal.pow s (w32 0x3F7AE148#32)) = x * Ideal.exp (w32 0xBF7AE148#32 * Ideal.log s) := by
  rw [w_alpha, w_neg_alpha]
  induction s using EReal.rec with
  | bot => exact absurd h (by simp)
  | top =>
    have e : Ideal.pow ⊤ ((2055209 / 2097152 : ℝ) : EReal) = ⊤ := if_pos (EReal.coe_pos.mpr (by norm_num))
    have e' : ((-(2055209 / 2097152) : ℝ) : EReal) * Ideal.log ⊤ = ⊥ := EReal.coe_mul_top_of_neg (by norm_num)
    rw [e, e']
    unfold Ideal.div
    rw [if_neg (by simp), EReal.inv_top]
    rfl
  | coe r =>
    have hr : 0 < r := EReal.coe_pos.mp h
    have e : Ideal.log (r : EReal) = (Real.log r : EReal) := if_neg (not_le.mpr hr)
    have ep : Ideal.pow (r : EReal) ((2055209 / 2097152 : ℝ) : EReal) = ((r ^ (2055209 / 2097152 : ℝ) : ℝ) : EReal) := rfl
    have hp : 0 < r ^ (2055209 / 2097152 : ℝ) := Real.rpow_pos_of_pos hr _
    have ee : Ideal.exp (((-(2055209 / 2097152) * Real.log r : ℝ)) : EReal) = (((r ^ (2055209 / 2097152 : ℝ))⁻¹ : ℝ) : EReal) := by
      refine congrArg Real.toEReal ?_
      rw [← Real.rpow_neg hr.le, Real.rpow_def_of_pos hr, mul_comm]
    rw [e, ep, ← EReal.coe_mul, ee]
    unfold Ideal.div
    rw [if_neg (by exact_mod_cast hp.ne'), EReal.coe_inv]

theorem bank_nonneg (k m : ℕ) : 0 ≤ bank k m := le_max_left _ _

theorem energy_pos (x : ℕ → EReal) (m t : ℕ) : 0 < energy x m t :=
  lt_of_lt_of_le w_tiny (le_add_of_nonneg_left (Finset.sum_nonneg fun k _ => EReal.mul_nonneg (bank_nonneg _ _) (power_nonneg _ _ _)))

theorem avg_nonneg (u : ℕ → EReal) (h : ∀ t, 0 ≤ u t) (t : ℕ) : 0 ≤ avg u t := by
  induction t with
  | zero => exact h 0
  | succ t ih => exact add_nonneg (EReal.mul_nonneg (EReal.coe_nonneg.mpr aR_nonneg) ih) (EReal.mul_nonneg (EReal.coe_nonneg.mpr bR_nonneg) (h _))

/-- The compressed ratio as the reference writes it, by powers. -/
theorem compress (x s : EReal) (hx : 0 ≤ x) (hs : 0 ≤ s) :
    Ideal.pow (Ideal.div x (Ideal.pow (s + w32 0x358637BD#32) (w32 0x3F7AE148#32)) + w32 0x40000000#32) (w32 0x3F000000#32) - w32 0x3FB504F3#32
      = Ideal.sqrt (x * Ideal.exp (w32 0xBF7AE148#32 * Ideal.log (s + w32 0x358637BD#32)) + w32 0x40000000#32) - w32 0x3FB504F3#32 := by
  rw [div_pow x (lt_of_lt_of_le w_eps (le_add_of_nonneg_left hs)), pow_half]
  refine add_nonneg (EReal.mul_nonneg hx ?_) (by rw [w_two]; exact EReal.coe_nonneg.mpr (by norm_num))
  generalize w32 0xBF7AE148#32 * Ideal.log (s + w32 0x358637BD#32) = z
  induction z using EReal.rec with
  | bot => exact le_refl _
  | top => exact le_top
  | coe r => exact EReal.coe_nonneg.mpr (Real.exp_pos r).le

/-! ### The bin at frequency zero has no weight -/

theorem w_2595 : w32 0x45223000#32 = ((2595 : ℝ) : EReal) := by
  simp [Ideal.ofBits, Ideal.ieee, -EReal.coe_mul]; norm_num

theorem w_81 : w32 0x42A20000#32 = ((81 : ℝ) : EReal) := by
  simp [Ideal.ofBits, Ideal.ieee, -EReal.coe_mul]; norm_num

theorem w_256 : w32 0x43800000#32 = ((256 : ℝ) : EReal) := by
  simp [Ideal.ofBits, Ideal.ieee, -EReal.coe_mul]; norm_num

theorem w_700 : w32 0x442F0000#32 = ((700 : ℝ) : EReal) := by
  simp [Ideal.ofBits, Ideal.ieee, -EReal.coe_mul]; norm_num

theorem w_10 : w32 0x41200000#32 = ((10 : ℝ) : EReal) := by
  simp [Ideal.ofBits, Ideal.ieee, -EReal.coe_mul]; norm_num

theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem freq_zero : freq 0 = 0 := by
  unfold freq ramp
  have e : Ideal.div (num 0) (w32 0x43800000#32) = 0 := by
    unfold num
    rw [w_256, div_real _ _ (by norm_num)]; simp
  rw [if_pos (by decide), e, mul_zero, zero_mul, add_zero]

/-- The logarithm's scale is a positive real. -/
theorem top_mel : ∃ B : ℝ, 0 ≤ B ∧ melOf (w32 0x4146DB6E#32) = (B : EReal) := by
  have e1 : w32 0x4146DB6E#32 = ((6516151 / 524288 : ℝ) : EReal) := by
    simp [Ideal.ofBits, Ideal.ieee, -EReal.coe_mul]; norm_num
  have e2 : w32 0x3EDE5BD9#32 = ((14572505 / 33554432 : ℝ) : EReal) := by
    simp [Ideal.ofBits, Ideal.ieee, -EReal.coe_mul]; norm_num
  have e3 : Ideal.log ((6516151 / 524288 : ℝ) : EReal) = ((Real.log (6516151 / 524288) : ℝ) : EReal) := if_neg (by norm_num)
  refine ⟨2595 * (Real.log (6516151 / 524288) * (14572505 / 33554432)), ?_, ?_⟩
  · have := Real.log_nonneg (show (1 : ℝ) ≤ 6516151 / 524288 by norm_num)
    positivity
  · unfold melOf
    rw [e1, e2, e3, w_2595, EReal.coe_mul, EReal.coe_mul]

theorem low_mel : melOf 1 = 0 := by
  have e : Ideal.log (1 : EReal) = ((Real.log 1 : ℝ) : EReal) := if_neg (by norm_num)
  unfold melOf
  rw [e, Real.log_one]; simp

theorem melPt_val {B : ℝ} (hB : melOf (w32 0x4146DB6E#32) = (B : EReal)) (i : ℕ) (h : i < 81) : melPt i = ((B * (i / 81) : ℝ) : EReal) := by
  unfold melPt ramp num
  rw [if_pos h, hB, low_mel, zero_mul, zero_add, w_81, div_real _ _ (by norm_num), EReal.coe_mul]

theorem fpt_val {B : ℝ} (hB : melOf (w32 0x4146DB6E#32) = (B : EReal)) (i : ℕ) (h : i < 81) :
    fpt i = ((700 * ((10 : ℝ) ^ (B * (i / 81) / 2595) - 1) : ℝ) : EReal) := by
  unfold fpt
  rw [melPt_val hB i h, w_2595, w_700, w_10, div_real _ _ (by norm_num), ← EReal.coe_one]
  rfl

theorem bank_zero (m : ℕ) (h : m < 80) : bank 0 m = 0 := by
  obtain ⟨B, hB0, hB⟩ := top_mel
  have h1 : (1 : ℝ) ≤ (10 : ℝ) ^ (B * ((m : ℕ) / 81) / 2595) := Real.one_le_rpow (by norm_num) (by positivity)
  have h2 : (10 : ℝ) ^ (B * ((m : ℕ) / 81) / 2595) ≤ (10 : ℝ) ^ (B * ((m + 1 : ℕ) / 81) / 2595) := by
    refine Real.rpow_le_rpow_of_exponent_le (by norm_num) ?_
    have : (m : ℝ) ≤ ((m + 1 : ℕ) : ℝ) := by exact_mod_cast Nat.le_succ m
    gcongr
  unfold bank
  refine max_eq_left (le_trans (min_le_left _ _) ?_)
  rw [freq_zero, sub_zero, fpt_val hB m (by omega), fpt_val hB (m + 1) (by omega), ← EReal.coe_neg, ← EReal.coe_sub]
  by_cases hd : 700 * ((10 : ℝ) ^ (B * ((m + 1 : ℕ) / 81) / 2595) - 1) - 700 * ((10 : ℝ) ^ (B * ((m : ℕ) / 81) / 2595) - 1) = 0
  · rw [hd]
    unfold Ideal.div
    rw [if_pos EReal.coe_zero, if_neg]
    · exact bot_le
    · rw [not_lt]
      exact EReal.coe_nonpos.mpr (by linarith)
  · rw [div_real _ _ hd]
    exact EReal.coe_nonpos.mpr (div_nonpos_of_nonpos_of_nonneg (by linarith) (by linarith))

end Cert.Pcen
-- ==== Proof.RPower.lean ====
/- THE REFERENCE'S POWER. Its frames are gathered from the padded signal, its transform is the two sums, and the square of the
   root of a power is the power. -/
module

public import proofs.«01_k».proof.Proof.Gen.ReferenceIdeal.Run
public import Idealize.ShloMosaic.Lib.Pipeline.ValueKit
public import Idealize.ShloMosaic.Lib.Pointwise
public import proofs.«01_k».proof.Proof.Laws
public import Idealize.ShloMosaic.Lib.Claim
public import Idealize.ShloMosaic.Lib.StableHlo.ReadAt

@[expose] public section

set_option maxRecDepth 16384

noncomputable section

namespace Cert.ReferenceIdeal.Val

open Cert.ReferenceIdeal Cert.ReferenceIdeal.Gen Cert.ReferenceIdeal.Value Cert.Pcen Idealize.ShloMosaic Idealize.ShloMosaic.TcCoe

/-- The dimension numbers of the frames' gather. -/
abbrev gd : GatherDims S32x960512 S6001x512x1 S32x6001x512 := gather_S32x960512_S6001x512x1_S32x6001x512_0_1_n_n_1_2_321

/-- The gather takes sample `idx (t, n)` of the same signal. -/
theorem gather_at (Y : FVec Ideal S32x960512 .f32) (I : IVec S6001x512x1 32) (s : Fin 32) (t : Fin 6001) (n : Fin 512) (p : ℕ) (hp : p < 960512)
    (hI : (I (ix3 t n 0)).toInt = (p : ℤ)) :
    Host.gather gd Y I (ix3 s t n) = Y (ix2 s ⟨p, hp⟩) := by
  unfold Host.gather
  refine congrArg Y ?_
  funext a
  refine Fin.ext ?_
  show gd.start (ix3 s t n) I a + gd.batchCoord (ix3 s t n) a + gd.offCoord (ix3 s t n) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ (show (0 : Fin 2) ∉ [] from List.not_mem_nil)]
    have e1 : gd.start (ix3 s t n) I (0 : Fin 2) = 0 := by
      unfold GatherDims.start
      exact dif_neg (show (0 : Fin 2) ∉ [(1 : Fin 2)] by decide)
    have e2 : gd.offCoord (ix3 s t n) (0 : Fin 2) = s.val := by
      unfold GatherDims.offCoord
      exact dif_pos ((GatherDims.mem_sKept _ _).mpr ⟨show (0 : Fin 2) ∉ [(1 : Fin 2)] by decide, show (0 : Fin 2) ∉ [] from List.not_mem_nil⟩)
    rw [e1, e2]
    show 0 + 0 + s.val = s.val
    omega
  · rw [GatherDims.batchCoord_eq_zero _ _ _ (show (1 : Fin 2) ∉ [] from List.not_mem_nil),
      GatherDims.offCoord_eq_zero _ _ _ (fun h => ((GatherDims.mem_sKept _ _).mp h).1 (List.mem_singleton.mpr rfl))]
    have hsi : gd.siIdx (ix3 s t n) ⟨List.idxOf (1 : Fin 2) gd.startIndexMap, List.idxOf_lt_length_iff.2 (List.mem_singleton.mpr rfl)⟩ = ix3 t n 0 := by
      funext b; refine Fin.ext ?_
      match b with
      | ⟨0, _⟩ => rfl
      | ⟨1, _⟩ => rfl
      | ⟨2, _⟩ => rfl
    unfold GatherDims.start
    rw [dif_pos (show (1 : Fin 2) ∈ gd.startIndexMap from List.mem_singleton.mpr rfl), hsi, hI]
    show min ((p : ℤ).toNat) (960512 - 1) + 0 + 0 = p
    rw [Int.toNat_natCast]
    omega

/-- Sample `n` of frame `t` is sample `160 t + n` of the padded signal. -/
theorem frames_at (X : Valuation τ sig (Elt Ideal)) (s : Fin 32) (t : Fin 6001) (n : Fin 512) :
   (show FVec Ideal S32x6001x512 .f32 from StableHlo.after hostOps0_2 X (Proc.tc.devRef main_v16)) (ix3 s t n)
    = (show FVec Ideal S32x960512 .f32 from X (Proc.tc.devRef main_v0)) (ix2 s ⟨160 * t.val + n.val, by omega⟩) := by
  after_reads_simp
  refine gather_at _ _ s t n _ _ ?_
  pointwise
  have e : BitVec.ofNat 32 t.val * 160#32 + BitVec.ofNat 32 n.val = BitVec.ofNat 32 (160 * t.val + n.val) := by
    rw [mul_comm]; simp [BitVec.ofNat_add, BitVec.ofNat_mul]
  have e2 : (BitVec.ofNat 32 (160 * t.val + n.val)).toInt = ((160 * t.val + n.val : ℕ) : ℤ) := by
    rw [BitVec.toInt_eq_toNat_cond, BitVec.toNat_ofNat, Nat.mod_eq_of_lt (by omega), if_pos (by omega)]
  have e3 : IntOp.addi (IntOp.muli (BitVec.ofNat 32 t.val) 160#32) (BitVec.ofNat 32 n.val) = BitVec.ofNat 32 (160 * t.val + n.val) := e
  rw [e3]
  have e4 : IntOp.cmpi CmpIPredicate.slt (BitVec.ofNat 32 (160 * t.val + n.val)) 0#32 = 0#1 := by
    show BitVec.ofBool (BitVec.slt _ _) = _
    rw [BitVec.slt_eq_decide, e2]
    rw [decide_eq_false (by simp; omega)]; rfl
  rw [e4]
  exact e2

theorem win_at (X : Valuation τ sig (Elt Ideal)) (s : Fin 32) (t : Fin 6001) (n : Fin 512) :
   (show FVec Ideal S32x6001x512 .f32 from StableHlo.after hostOps0_2 X (Proc.tc.devRef main_v30)) (ix3 s t n) = hann n := by
  after_reads_at
  simp only [id]
  pointwise
  rw [sitofp_num _ (show n.val < 2 ^ 31 by omega)]
  rfl

theorem num_mul (n k : ℕ) (a : EReal) : a * num n * num k = a * (num n * num k) := mul_assoc _ _ _

theorem ang_at (X : Valuation τ sig (Elt Ideal)) (n : Fin 512) (k : Fin 257) :
   (show FVec Ideal S512x257 .f32 from StableHlo.after hostOps0_2 X (Proc.tc.devRef main_v44)) (ix2 n k) = ang n k := by
  after_reads_at
  rw [sitofp_num _ (show n.val < 2 ^ 31 by omega), sitofp_num _ (show k.val < 2 ^ 31 by omega), num_mul]
  rfl

theorem after_split (X : Valuation τ sig (Elt Ideal)) (b : Ref sig .tc) (n : ℕ) : StableHlo.after hostOps0_2 X (Proc.tc.devRef b)
   = StableHlo.after (hostOps0_2.drop n) (StableHlo.after (hostOps0_2.take n) X) (Proc.tc.devRef b) := by
  rw [← StableHlo.after_append, List.take_append_drop]

theorem prod_at (X : Valuation τ sig (Elt Ideal)) (j : S32x6001x512.Idx) :
   (show FVec Ideal S32x6001x512 .f32 from StableHlo.after hostOps0_2 X (Proc.tc.devRef main_v31)) j
    = (show FVec Ideal S32x6001x512 .f32 from StableHlo.after hostOps0_2 X (Proc.tc.devRef main_v16)) j
      * (show FVec Ideal S32x6001x512 .f32 from StableHlo.after hostOps0_2 X (Proc.tc.devRef main_v30)) j := by
  after_reads_simp
  rfl

/-- The power of frame `t` at bin `k`. -/
theorem power_at (X : Valuation τ sig (Elt Ideal)) (x : ℕ → EReal) (s : Fin 32) (hx : ∀ p : Fin 960512, (show FVec Ideal S32x960512 .f32 from X (Proc.tc.devRef main_v0)) (ix2 s p) = Cert.Pcen.pad x p) (t : Fin 6001) (k : Fin 257) :
   (show FVec Ideal S32x6001x257 .f32 from StableHlo.after hostOps0_2 X (Proc.tc.devRef main_v54)) (ix3 s t k) = power x t k := by
  have hP : ∀ n : Fin 512, (show FVec Ideal S32x6001x512 .f32 from StableHlo.after hostOps0_2 X (Proc.tc.devRef main_v31)) (ix3 s t n)
      = Cert.Pcen.pad x (160 * t.val + n.val) * hann n := fun n =>
    (prod_at X _).trans (congrArg₂ (· * ·) ((frames_at X s t n).trans (hx _)) (win_at X s t n))
  have hA := fun n => ang_at X n k
  simp only [after_split X _ 53] at hP hA ⊢
  generalize StableHlo.after (List.take 53 (hostOps0_2 (F := Ideal))) X = Y at hP hA ⊢
  simp only [List.drop_succ_cons, List.drop_zero] at hP hA ⊢
  have hP' : ∀ n : Fin 512, (show FVec Ideal S32x6001x512 .f32 from Y (Proc.tc.devRef main_v31)) (ix3 s t n)
      = Cert.Pcen.pad x (160 * t.val + n.val) * hann n := fun n => by
    rw [← hP n]; after_reads_simp
  have hA' : ∀ n : Fin 512, (show FVec Ideal S512x257 .f32 from Y (Proc.tc.devRef main_v44)) (ix2 n k) = ang n k := fun n => by
    rw [← hA n]; after_reads_simp
  clear hP hA
  have hr : (∑ n : Fin 512, (show FVec Ideal S32x6001x512 .f32 from Y (Proc.tc.devRef main_v31)) (ix3 s t n)
      * Ideal.cos ((show FVec Ideal S512x257 .f32 from Y (Proc.tc.devRef main_v44)) (ix2 n k))) = re x t k :=
    Finset.sum_congr rfl fun n _ => by rw [hP' n, hA' n, mul_assoc]
  have hi : (∑ n : Fin 512, (show FVec Ideal S32x6001x512 .f32 from Y (Proc.tc.devRef main_v31)) (ix3 s t n)
      * Ideal.sin ((show FVec Ideal S512x257 .f32 from Y (Proc.tc.devRef main_v44)) (ix2 n k))) = im x t k :=
    Finset.sum_congr rfl fun n _ => by rw [hP' n, hA' n, mul_assoc]
  after_reads_at
  refine Eq.trans (?_ : _ = Ideal.sqrt (re x t k * re x t k + -im x t k * -im x t k) * Ideal.sqrt (re x t k * re x t k + -im x t k * -im x t k)) ?_
  · rw [← hr, ← hi]
  · rw [neg_mul_neg']
    exact sqrt_sq (power_nonneg x t k)
end Cert.ReferenceIdeal.Val
-- ==== Proof.RMel.lean ====
/- THE REFERENCE'S ENERGIES. Its filter bank applied to the powers, bin 0 without weight, is the mel energy, and the
   exponential of its logarithm gives it back. -/
module

public import proofs.«01_k».proof.Proof.Gen.ReferenceIdeal.Run
public import Idealize.ShloMosaic.Lib.Pipeline.ValueKit
public import Idealize.ShloMosaic.Lib.Pointwise
public import proofs.«01_k».proof.Proof.RPower
public import Idealize.ShloMosaic.Lib.Claim
public import Idealize.ShloMosaic.Lib.StableHlo.ReadAt

@[expose] public section

set_option maxRecDepth 16384

noncomputable section

namespace Cert.ReferenceIdeal.Val

open Cert.ReferenceIdeal Cert.ReferenceIdeal.Gen Cert.ReferenceIdeal.Value Cert.Pcen Idealize.ShloMosaic Idealize.ShloMosaic.TcCoe

/-- The energies, from the bank and the powers. -/
theorem energies_at (X : Valuation τ sig (Elt Ideal)) (x : ℕ → EReal) (s : Fin 32) (b : Fin 80) (t : Fin 6001)
    (hb : ∀ k : Fin 257, (show FVec Ideal S257x80 .f32 from X (Proc.tc.devRef main_v91)) (ix2 k b) = bank k b)
    (hp : ∀ k : Fin 257, (show FVec Ideal S32x6001x257 .f32 from X (Proc.tc.devRef main_v54)) (ix3 s t k) = power x t k) :
   (show FVec Ideal S32x80x6001 .f32 from StableHlo.after hostOps0_8 X (Proc.tc.devRef main_v97)) (ix3 s b t) = energy x b t := by
  have e : (∑ k : Fin 257, (show FVec Ideal S257x80 .f32 from X (Proc.tc.devRef main_v91)) (ix2 k b)
      * (show FVec Ideal S32x6001x257 .f32 from X (Proc.tc.devRef main_v54)) (ix3 s t k)) = ∑ k : Fin 256, bank (k + 1) b * power x t (k + 1) := by
    rw [Fin.sum_univ_succ, hb, hp]
    refine (congrArg₂ (· + ·) ((congrArg (· * _) (bank_zero b b.isLt)).trans (zero_mul _)) (Finset.sum_congr rfl fun k _ => ?_)).trans (zero_add _)
    rw [hb, hp]; rfl
  after_reads_at
  refine Eq.trans (?_ : _ = Ideal.exp (Ideal.log (energy x b t))) (exp_log (energy_pos x b t))
  unfold energy
  rw [← e]

/-- The same, frames first. -/
theorem v98_at (X : Valuation τ sig (Elt Ideal)) (s : Fin 32) (b : Fin 80) (t : Fin 6001) :
   (show FVec Ideal S6001x32x80 .f32 from StableHlo.after hostOps0_8 X (Proc.tc.devRef main_v98)) (ix3 t s b)
    = (show FVec Ideal S32x80x6001 .f32 from StableHlo.after hostOps0_8 X (Proc.tc.devRef main_v97)) (ix3 s b t) := by
  after_reads_at

/-- The loop's start: the first frame. -/
theorem first_at (X : Valuation τ sig (Elt Ideal)) (s : Fin 32) (b : Fin 80) :
   (show FVec Ideal S32x80 .f32 from StableHlo.after hostOps0_8 X (Proc.tc.devRef main_v103_2)) (ix2 s b)
    = (show FVec Ideal S32x80x6001 .f32 from StableHlo.after hostOps0_8 X (Proc.tc.devRef main_v97)) (ix3 s b 0) := by
  after_reads_at
  simp only [id]; pointwise

/-- The loop's frames: all but the first. -/
theorem later_at (X : Valuation τ sig (Elt Ideal)) (s : Fin 32) (b : Fin 80) (j : Fin 6000) :
   (show FVec Ideal S6000x32x80 .f32 from StableHlo.after hostOps0_8 X (Proc.tc.devRef main_v103_0)) (ix3 j s b)
    = (show FVec Ideal S32x80x6001 .f32 from StableHlo.after hostOps0_8 X (Proc.tc.devRef main_v97)) (ix3 s b ⟨1 + j.val, by omega⟩) := by
  after_reads_at
  simp only [id]; pointwise
end Cert.ReferenceIdeal.Val
-- ==== Proof.REntry.lean ====
/- THE REFERENCE BEFORE ITS LOOP. Stretch by stretch, the energies of every signal, band and frame. -/
module

public import proofs.«01_k».proof.Proof.Gen.ReferenceIdeal.Run
public import Idealize.ShloMosaic.Lib.Pipeline.ValueKit
public import Idealize.ShloMosaic.Lib.Pointwise
public import proofs.«01_k».proof.Proof.RTables
public import proofs.«01_k».proof.Proof.RMel
public import Idealize.ShloMosaic.Lib.Claim
public import Idealize.ShloMosaic.Lib.WordArith.Masks
public import Idealize.ShloMosaic.Lib.StableHlo.ReadAt

@[expose] public section

set_option maxRecDepth 16384

noncomputable section

namespace Cert.ReferenceIdeal.Val

open Idealize.ShloMosaic.StableHlo (entryContents atTrip afterL afterL_cons afterL_nil after_of_writes_sub)
open Cert.ReferenceIdeal Cert.ReferenceIdeal.Gen Cert.ReferenceIdeal.Value Cert.Pcen Idealize.ShloMosaic Idealize.ShloMosaic.TcCoe

variable (m : (ℓ : Loc nD τ sig) → Buf (Elt Ideal) ℓ) (c : Dev nD)

/-- The contents before the last stretch of the loop's entry. -/
abbrev before8 : Valuation τ sig (Elt Ideal) :=
  StableHlo.after hostOps0_7 (StableHlo.after hostOps0_6 (StableHlo.after hostOps0_5 (StableHlo.after hostOps0_4
      (StableHlo.after hostOps0_3 (StableHlo.after hostOps0_2 (StableHlo.after hostOps0_1 (StableHlo.after hostOps0 (fun b => m (c, b)))))))))

theorem entry_eq : entryContents preI m c = StableHlo.after hostOps0_8 (before8 m c) := by
  simp only [entryContents, afterL_cons, afterL_nil]

theorem cst8_at (X : Valuation τ sig (Elt Ideal)) :
    StableHlo.after hostOps0_2 X (Proc.tc.devRef main_cst_8) = constant (F := Ideal) S_ .f32 0x00000000#32 := by
  after_reads_simp

theorem cst9_at (X : Valuation τ sig (Elt Ideal)) :
    StableHlo.after hostOps0_2 X (Proc.tc.devRef main_cst_9) = constant (F := Ideal) S_ .f32 0x45FA0000#32 := by
  after_reads_simp

/-- The filter bank before the loop. -/
theorem entry_bank (k : Fin 257) (b : Fin 80) : (show FVec Ideal S257x80 .f32 from before8 m c (Proc.tc.devRef main_v91)) (ix2 k b) = bank k b := by
  refine bank_at _ ?_ ?_ k b
  · intro k
    refine Eq.trans (congrFun ?_ _) (freqs_at (StableHlo.after hostOps0_2 (StableHlo.after hostOps0_1 (StableHlo.after hostOps0 (fun b => m (c, b))))) ?_ ?_ k)
    · rw [after_of_writes_sub hostOps0_5 _ hostOps0_5_writes (by decide +kernel), after_of_writes_sub hostOps0_4 _ hostOps0_4_writes (by decide +kernel)]
    · exact cst8_at _
    · exact cst9_at _
  · intro k
    exact melPts_at _ _ _ (fun i => (melEnds_at _ i).1) (fun i => (melEnds_at _ i).2) k

theorem power_kept : before8 m c (Proc.tc.devRef main_v54)
    = StableHlo.after hostOps0_2 (StableHlo.after hostOps0_1 (StableHlo.after hostOps0 (fun b => m (c, b)))) (Proc.tc.devRef main_v54) := by
  rw [before8, after_of_writes_sub hostOps0_7 _ hostOps0_7_writes (by decide +kernel), after_of_writes_sub hostOps0_6 _ hostOps0_6_writes (by decide +kernel),
    after_of_writes_sub hostOps0_5 _ hostOps0_5_writes (by decide +kernel), after_of_writes_sub hostOps0_4 _ hostOps0_4_writes (by decide +kernel),
    after_of_writes_sub hostOps0_3 _ hostOps0_3_writes (by decide +kernel)]

/-- The powers before the loop. -/
theorem entry_power (s : Fin 32) (t : Fin 6001) (k : Fin 257) :
    (show FVec Ideal S32x6001x257 .f32 from before8 m c (Proc.tc.devRef main_v54)) (ix3 s t k) = power (wav (m (c, Proc.tc.devRef main_arg0)) s) t k :=
  (congrFun (power_kept m c) _).trans (power_at (StableHlo.after hostOps0_1 (StableHlo.after hostOps0 (fun b => m (c, b)))) _ s (fun p => pad_at _ s p) t k)

/-- The energies before the loop. -/
theorem entry_energy (s : Fin 32) (b : Fin 80) (t : Fin 6001) :
    (show FVec Ideal S32x80x6001 .f32 from entryContents preI m c (Proc.tc.devRef main_v97)) (ix3 s b t)
      = energy (wav (m (c, Proc.tc.devRef main_arg0)) s) b t := by
  rw [entry_eq]
  exact energies_at _ _ s b t (fun k => entry_bank m c k b) (fun k => entry_power m c s t k)

/-- The first frame's, where the later operations take it. -/
theorem entry_frame (s : Fin 32) (b : Fin 80) (t : Fin 6001) :
    (show FVec Ideal S6001x32x80 .f32 from entryContents preI m c (Proc.tc.devRef main_v98)) (ix3 t s b)
      = energy (wav (m (c, Proc.tc.devRef main_arg0)) s) b t := by
  rw [← entry_energy m c s b t, entry_eq]
  exact v98_at _ s b t

theorem entry_first (s : Fin 32) (b : Fin 80) :
    (show FVec Ideal S32x80 .f32 from entryContents preI m c (Proc.tc.devRef main_v103_2)) (ix2 s b)
      = energy (wav (m (c, Proc.tc.devRef main_arg0)) s) b 0 := by
  refine Eq.trans ?_ (entry_energy m c s b 0)
  rw [entry_eq]
  exact first_at _ s b

theorem entry_later (j : Fin 6000) (s : Fin 32) (b : Fin 80) :
    (show FVec Ideal S6000x32x80 .f32 from entryContents preI m c (Proc.tc.devRef main_v103_0)) (ix3 j s b)
      = energy (wav (m (c, Proc.tc.devRef main_arg0)) s) b (j.val + 1) := by
  refine Eq.trans ?_ ((entry_energy m c s b ⟨1 + j.val, by omega⟩).trans (congrArg (energy _ _) (Nat.add_comm _ _)))
  rw [entry_eq]
  exact later_at _ s b j

theorem entry_arg : entryContents preI m c (Proc.tc.devRef main_arg0) = m (c, Proc.tc.devRef main_arg0) := by
  rw [entry_eq]
  after_reads_simp

end Cert.ReferenceIdeal.Val
-- ==== Proof.RLoop.lean ====
/- THE REFERENCE'S RUNNING AVERAGE. Its loop of 6000 trips, one frame a trip: trip `k` steps the average to frame `k + 1`
   and writes it in row `k`, the rows before it kept. -/
module

public import proofs.«01_k».proof.Proof.Gen.ReferenceIdeal.Run
public import Idealize.ShloMosaic.Lib.Pipeline.ValueKit
public import Idealize.ShloMosaic.Lib.Pointwise
public import proofs.«01_k».proof.Proof.RMel
public import Idealize.ShloMosaic.Lib.Claim
public import Idealize.ShloMosaic.Lib.WordArith.Masks
public import Idealize.ShloMosaic.Lib.StableHlo.ReadAt

@[expose] public section

set_option maxRecDepth 16384

noncomputable section

namespace Cert.ReferenceIdeal.Val

open Idealize.ShloMosaic.StableHlo (entryContents atTrip afterL afterL_cons afterL_nil after_of_writes_sub)
open Cert.ReferenceIdeal Cert.ReferenceIdeal.Gen Cert.ReferenceIdeal.Value Cert.Pcen Idealize.ShloMosaic Idealize.ShloMosaic.TcCoe

theorem iv_toInt (k : ℕ) (hk : k ≤ 6000) : (Scf.iv 0#32 1#32 k).toInt = k := by
  have h := Idealize.ShloMosaic.WordArith.toNat_iv_zero_one k (by omega)
  rw [BitVec.toInt_eq_toNat_cond, h]
  norm_num; omega

section Slot

variable (h : S1x32x80.rank = S6000x32x80.rank) (f : Fin 3 → Int) (k : ℕ)

theorem slot0 (hk : k < 6000) (hf : f 0 = k) : Host.clampedStart S6000x32x80 S1x32x80 h f 0 = k :=
  Host.clampedStart_of_le h f 0 k hf (show k + 1 ≤ 6000 by omega)

theorem slot1 (hf : f 1 = 0) : Host.clampedStart S6000x32x80 S1x32x80 h f 1 = 0 :=
  Host.clampedStart_of_le h f 1 0 hf (show 0 + 32 ≤ 32 by omega)

theorem slot2 (hf : f 2 = 0) : Host.clampedStart S6000x32x80 S1x32x80 h f 2 = 0 :=
  Host.clampedStart_of_le h f 2 0 hf (show 0 + 80 ≤ 80 by omega)

end Slot

theorem ix3_of {a b c : ℕ} {i i' : Fin a} {j j' : Fin b} {l l' : Fin c} (hi : i.val = i'.val) (hj : j.val = j'.val) (hl : l.val = l'.val) :
    ix3 i j l = ix3 i' j' l' := by
  rw [Fin.ext hi, Fin.ext hj, Fin.ext hl]

/-- One row of 32 × 80 cut at row `k`. -/
theorem row_at (A : FVec Ideal S6000x32x80 .f32) (f : Fin 3 → Int) (h : S6000x32x80.Slices (fun _ => 0) S1x32x80) (k : ℕ) (hk : k < 6000)
    (h0 : f 0 = k) (h1 : f 1 = 0) (h2 : f 2 = 0) (s : Fin 32) (b : Fin 80) :
    Host.dynamicSlice S1x32x80 A f h (ix3 0 s b) = A (ix3 ⟨k, hk⟩ s b) := by
  pointwise
  exact congrArg A (ix3_of (slot0 h.1 f k hk h0) ((congrArg (· + s.val) (slot1 h.1 f h1)).trans (Nat.zero_add _))
    ((congrArg (· + b.val) (slot2 h.1 f h2)).trans (Nat.zero_add _)))

/-- One row of 32 × 80 put at row `k`: the other rows stay. -/
theorem put_at (A : FVec Ideal S6000x32x80 .f32) (U : FVec Ideal S1x32x80 .f32) (f : Fin 3 → Int)
    (h : S6000x32x80.Slices (fun _ => 0) S1x32x80) (k : ℕ) (hk : k < 6000)
    (h0 : f 0 = k) (h1 : f 1 = 0) (h2 : f 2 = 0) (j : Fin 6000) (s : Fin 32) (b : Fin 80) :
    Host.dynamicUpdateSlice A U f h (ix3 j s b) = if j.val = k then U (ix3 0 s b) else A (ix3 j s b) := by
  have e0 := slot0 h.1 f k hk h0
  have e1 := slot1 h.1 f h1
  have e2 := slot2 h.1 f h2
  pointwise
  by_cases hj : j.val = k
  · refine (dif_pos ?_).trans (Eq.trans ?_ (if_pos hj).symm)
    · rw [e0, e1, e2]; omega
    · exact congrArg U (ix3_of (by first | rfl | (show j.val - _ = 0; omega)) (congrArg (s.val - ·) e1) (congrArg (b.val - ·) e2))
  · refine (dif_neg fun hin => hj ?_).trans (if_neg hj).symm
    rw [e0, e1, e2] at hin
    omega

/-- Where a trip cuts and puts: at the row its counter says. -/
abbrev startOf (X : Valuation τ sig (Elt Ideal)) : Fin 3 → Int :=
  fun a => ((![X (Proc.devRef .tc main_v103_1), constantI S_ 32 0#32, constantI S_ 32 0#32] : Fin 3 → (⟨S_, .i32⟩ : BufTy).Contents (Elt Ideal)) a (Shape.Idx.first h_S_)).toInt

theorem start_at (X : Valuation τ sig (Elt Ideal)) (k : ℕ) (hk : k < 6000) (h : X (Proc.tc.devRef main_v103_1) = fun _ => Scf.iv 0#32 1#32 k) :
    startOf X 0 = k :=
  (congrArg BitVec.toInt (congrFun h (Shape.Idx.first h_S_))).trans (iv_toInt k (by omega))

/-- One trip's average. -/
theorem step_at (X : Valuation τ sig (Elt Ideal)) (k : ℕ) (hk : k < 6000) (s : Fin 32) (b : Fin 80)
    (h : X (Proc.tc.devRef main_v103_1) = fun _ => Scf.iv 0#32 1#32 k) :
   (show FVec Ideal S32x80 .f32 from res_main_while0b_v124 X) (ix2 s b)
    = (aR : EReal) * (show FVec Ideal S32x80 .f32 from X (Proc.tc.devRef main_v103_2)) (ix2 s b)
      + (bR : EReal) * (show FVec Ideal S6000x32x80 .f32 from X (Proc.tc.devRef main_v103_0)) (ix3 ⟨k, hk⟩ s b) := by
  have ha : (1 : EReal) - w32 0x3CCCCCCD#32 = (aR : EReal) := by
    rw [ofBits_b, ← EReal.coe_one, ← EReal.coe_sub]; rfl
  have e := row_at (X (Proc.tc.devRef main_v103_0)) (startOf X) sliceFits_S6000x32x80_S1x32x80 k hk (start_at X k hk h) rfl rfl s b
  unfold res_main_while0b_v124
  generalize Host.dynamicSlice S1x32x80 (X (Proc.tc.devRef main_v103_0)) _ _ = B at e ⊢
  pointwise
  rw [← ha, ← ofBits_b, ← e]

/-- One trip's rows: row `k` is the new average, the others stay. -/
theorem rows_at (X : Valuation τ sig (Elt Ideal)) (k : ℕ) (hk : k < 6000) (s : Fin 32) (b : Fin 80) (j : Fin 6000)
    (h : X (Proc.tc.devRef main_v103_1) = fun _ => Scf.iv 0#32 1#32 k) :
   (show FVec Ideal S6000x32x80 .f32 from step_main_v103_3 X) (ix3 j s b)
    = if j.val = k then (show FVec Ideal S32x80 .f32 from res_main_while0b_v124 X) (ix2 s b)
      else (show FVec Ideal S6000x32x80 .f32 from X (Proc.tc.devRef main_v103_3)) (ix3 j s b) := by
  refine (put_at (X (Proc.tc.devRef main_v103_3)) _ (startOf X) updateFits_S6000x32x80_S1x32x80 k hk (start_at X k hk h) rfl rfl j s b).trans ?_
  refine congrArg (fun y => if j.val = k then y else _) ?_
  generalize res_main_while0b_v124 X = B
  pointwise

section Kept

variable (m : (ℓ : Loc nD τ sig) → Buf (Elt Ideal) ℓ) (c : Dev nD)

/-- A buffer that neither the loop's test nor its body writes holds its contents through a trip. -/
theorem kept_trip (X : Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) : afterL bodyI (StableHlo.after condOps X) (Proc.tc.devRef r) = X (Proc.tc.devRef r) := by
  simp only [afterL_cons, afterL_nil]
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- … and through any number of them. -/
theorem kept (r : Ref sig .tc) (hc : r ∉ condOps_W) (h0 : r ∉ while0Ops0_W) (h1 : r ∉ while0Ops0_1_W)
    (h2 : r ∉ while0Ops0_2_W) (h3 : r ∉ while0Ops0_3_W) : ∀ k, atK m k c (Proc.tc.devRef r) = entryContents preI m c (Proc.tc.devRef r)
  | 0 => rfl
  | k + 1 => (kept_trip (atK m k c) r hc h0 h1 h2 h3).trans (kept r hc h0 h1 h2 h3 k)

/-- After `k` trips: the average of frame `k`, and the averages of the frames 1 to `k` in the rows. -/
theorem loop_at (u : Fin 32 → Fin 80 → ℕ → EReal)
    (hf : ∀ s b, (show FVec Ideal S32x80 .f32 from entryContents preI m c (Proc.tc.devRef main_v103_2)) (ix2 s b) = u s b 0)
    (hl : ∀ (j : Fin 6000) s b, (show FVec Ideal S6000x32x80 .f32 from entryContents preI m c (Proc.tc.devRef main_v103_0)) (ix3 j s b) = u s b (j.val + 1)) :
    ∀ k, k ≤ 6000 →
      (∀ (j : Fin 6000) s b, (show FVec Ideal S6000x32x80 .f32 from atK m k c (Proc.tc.devRef main_v103_0)) (ix3 j s b) = u s b (j.val + 1))
      ∧ (∀ s b, (show FVec Ideal S32x80 .f32 from atK m k c (Proc.tc.devRef main_v103_2)) (ix2 s b) = avg (u s b) k)
      ∧ ∀ (j : Fin 6000) s b, j.val < k →
        (show FVec Ideal S6000x32x80 .f32 from atK m k c (Proc.tc.devRef main_v103_3)) (ix3 j s b) = avg (u s b) (j.val + 1)
  | 0, _ => ⟨hl, hf, fun j s b h => absurd h (Nat.not_lt_zero _)⟩
  | k + 1, hk => by
    obtain ⟨i0, i2, i3⟩ := loop_at u hf hl k (by omega)
    have hk' : k < 6000 := by omega
    have hctr := atK_ctr m c k
    have hs := trip_agree (atK m k c)
    have g0 : atK m (k + 1) c (Proc.tc.devRef main_v103_0) = atK m k c (Proc.tc.devRef main_v103_0) :=
      (trip_main_v103_0 _).trans (cond_keeps (atK m k c) main_v103_0 (by decide))
    have g2 : atK m (k + 1) c (Proc.tc.devRef main_v103_2) = res_main_while0b_v124 (atK m k c) :=
      (hs main_v103_2 (by decide)).trans (STEP_main_v103_2 _)
    have g3 : atK m (k + 1) c (Proc.tc.devRef main_v103_3) = step_main_v103_3 (atK m k c) :=
      (hs main_v103_3 (by decide)).trans (STEP_main_v103_3 _)
    have n : ∀ s b, (show FVec Ideal S32x80 .f32 from res_main_while0b_v124 (atK m k c)) (ix2 s b) = avg (u s b) (k + 1) := fun s b => by
      refine (step_at (atK m k c) k hk' s b hctr).trans ?_
      exact congrArg₂ (fun x y => (aR : EReal) * x + (bR : EReal) * y) (i2 s b) (i0 ⟨k, hk'⟩ s b)
    refine ⟨fun j s b => (congrFun g0 _).trans (i0 j s b), fun s b => (congrFun g2 _).trans (n s b), fun j s b hj => ?_⟩
    refine (congrFun g3 _).trans ((rows_at (atK m k c) k hk' s b j hctr).trans ?_)
    by_cases e : j.val = k
    · exact (if_pos e).trans (e ▸ n s b)
    · exact (if_neg e).trans (i3 j s b (by omega))

end Kept

end Cert.ReferenceIdeal.Val
-- ==== Proof.RPost.lean ====
/- THE REFERENCE'S RESULT. The energies before the loop, the averages it leaves, and the operations after it, put together:
   the result at each index is the compressed energy of the specification. -/
module

public import proofs.«01_k».proof.Proof.Gen.ReferenceIdeal.Run
public import Idealize.ShloMosaic.Lib.Pipeline.ValueKit
public import Idealize.ShloMosaic.Lib.Pointwise
public import proofs.«01_k».proof.Proof.RLoop
public import Idealize.ShloMosaic.Lib.Claim
public import Idealize.ShloMosaic.Lib.WordArith.Masks
public import Idealize.ShloMosaic.Lib.StableHlo.ReadAt

@[expose] public section

set_option maxRecDepth 16384

noncomputable section

namespace Cert.ReferenceIdeal.Val

open Idealize.ShloMosaic.StableHlo (entryContents atTrip afterL afterL_cons afterL_nil after_of_writes_sub)
open Cert.ReferenceIdeal Cert.ReferenceIdeal.Gen Cert.ReferenceIdeal.Value Cert.Pcen Idealize.ShloMosaic Idealize.ShloMosaic.TcCoe

/-- The operations after the loop, at an index. -/
theorem post_at (X : Valuation τ sig (Elt Ideal)) (w : ℕ → EReal) (x : EReal) (s : Fin 32) (b : Fin 80) (t : Fin 6001)
    (hx : (show FVec Ideal S32x80x6001 .f32 from X (Proc.tc.devRef main_v97)) (ix3 s b t) = x)
    (h0 : (show FVec Ideal S6001x32x80 .f32 from X (Proc.tc.devRef main_v98)) (ix3 0 s b) = w 0)
    (h1 : ∀ j : Fin 6000, (show FVec Ideal S6000x32x80 .f32 from X (Proc.tc.devRef main_v103_3)) (ix3 j s b) = w (j.val + 1))
    (px : 0 ≤ x) (pw : 0 ≤ w t.val) :
    (show FVec Ideal S32x80x6001 .f32 from StableHlo.after hostOps0_9 X (Proc.tc.devRef main_v117)) (ix3 s b t)
      = Ideal.sqrt (x * Ideal.exp (w32 0xBF7AE148#32 * Ideal.log (w t.val + w32 0x358637BD#32)) + w32 0x40000000#32) - w32 0x3FB504F3#32 := by
  have e1 : ∀ j, (show FVec Ideal S6000x32x80 .f32 from StableHlo.upto hostOps0_9 X 1 (Proc.tc.devRef main_v103_3)) j
      = (show FVec Ideal S6000x32x80 .f32 from X (Proc.tc.devRef main_v103_3)) j := fun j => by
    after_reads_simp
  have e0 : (show FVec Ideal S1x32x80 .f32 from StableHlo.upto hostOps0_9 X 1 (Proc.tc.devRef main_v104)) (ix3 0 s b)
      = (show FVec Ideal S6001x32x80 .f32 from X (Proc.tc.devRef main_v98)) (ix3 0 s b) := by
    after_reads_at
  refine Eq.trans ?_ (compress x (w t.val) px pw)
  rw [← hx]
  after_reads_at
  refine congrArg (fun y => Ideal.pow (Ideal.div (X (Proc.tc.devRef main_v97) (ix3 s b t)) (Ideal.pow (y + w32 0x358637BD#32) (w32 0x3F7AE148#32))
    + w32 0x40000000#32) (w32 0x3F000000#32) - w32 0x3FB504F3#32) ?_
  by_cases h : t.val < 1
  · have e : t.val = 0 := by omega
    exact (dif_pos h).trans ((congrArg (StableHlo.upto hostOps0_9 X 1 (Proc.tc.devRef main_v104)) (ix3_of e rfl rfl)).trans (e0.trans (h0.trans (congrArg w e.symm))))
  · exact (dif_neg h).trans ((e1 _).trans ((h1 ⟨t.val - 1, by omega⟩).trans (congrArg w (show t.val - 1 + 1 = t.val by omega))))

end Cert.ReferenceIdeal.Val
-- ==== Proof.RRun.lean ====
/- THE REFERENCE'S RUN. Its result at each index, and its frame: the argument is kept, and it declares no semaphore. -/
module

public import proofs.«01_k».proof.Proof.Gen.ReferenceIdeal.Run
public import Idealize.ShloMosaic.Lib.Pipeline.ValueKit
public import Idealize.ShloMosaic.Lib.Pointwise
public import proofs.«01_k».proof.Proof.REntry
public import proofs.«01_k».proof.Proof.RPost
public import Idealize.ShloMosaic.Lib.Claim
public import Idealize.ShloMosaic.Lib.WordArith.Masks
public import Idealize.ShloMosaic.Lib.StableHlo.ReadAt

@[expose] public section

set_option maxRecDepth 16384

noncomputable section

namespace Cert.ReferenceIdeal.Val

open Idealize.ShloMosaic.StableHlo (entryContents atTrip afterL afterL_cons afterL_nil after_of_writes_sub finalContents)
open Idealize.SL.Sem
open Cert.ReferenceIdeal Cert.ReferenceIdeal.Gen Cert.ReferenceIdeal.Value Cert.Pcen Idealize.ShloMosaic Idealize.ShloMosaic.TcCoe

variable (m : (ℓ : Loc nD τ sig) → Buf (Elt Ideal) ℓ) (ρ : Dev nD → PrngReg) (c : Dev nD)

/-- The result, element by element. -/
def result (A : FVec Ideal S32x960000 .f32) : FVec Ideal S32x80x6001 .f32 := fun j =>
  Ideal.sqrt (energy (wav A (j 0)) (j 1).val (j 2).val * Ideal.exp (w32 0xBF7AE148#32 *
    Ideal.log (avg (energy (wav A (j 0)) (j 1).val) (j 2).val + w32 0x358637BD#32)) + w32 0x40000000#32) - w32 0x3FB504F3#32

/-- What the loop leaves where the later operations read. -/
theorem after_loop (r : Ref sig .tc) (hc : r ∉ condOps_W) (h0 : r ∉ while0Ops0_W) (h1 : r ∉ while0Ops0_1_W)
    (h2 : r ∉ while0Ops0_2_W) (h3 : r ∉ while0Ops0_3_W) :
    StableHlo.after condOps (atK m 6000 c) (Proc.tc.devRef r) = entryContents preI m c (Proc.tc.devRef r) :=
  (after_of_writes_sub condOps _ condOps_writes hc).trans (kept m c r hc h0 h1 h2 h3 6000)

theorem final_result : finalContents condOps preI bodyI postI 6000 m c (Proc.tc.devRef main_v117)
    = result (m (c, Proc.tc.devRef main_arg0)) := by
  refine funext fun j => ?_
  obtain ⟨s, b, t, rfl⟩ : ∃ (s : Fin 32) (b : Fin 80) (t : Fin 6001), j = ix3 s b t := ⟨j 0, j 1, j 2, (eq_ix3 j)⟩
  have hl := loop_at m c (fun s b => energy (wav (m (c, Proc.tc.devRef main_arg0)) s) b) (fun s b => entry_first m c s b)
    (fun j s b => entry_later m c j s b) 6000 le_rfl
  refine (post_at (StableHlo.after condOps (atK m 6000 c)) (avg (energy (wav (m (c, Proc.tc.devRef main_arg0)) s) b))
    (energy (wav (m (c, Proc.tc.devRef main_arg0)) s) b t) s b t ?_ ?_ ?_ (energy_pos _ _ _).le (avg_nonneg _ (fun _ => (energy_pos _ _ _).le) _))
  · exact (congrFun (after_loop m c main_v97 (by decide +kernel) (by decide +kernel) (by decide +kernel) (by decide +kernel) (by decide +kernel)) _).trans
      (entry_energy m c s b t)
  · exact (congrFun (after_loop m c main_v98 (by decide +kernel) (by decide +kernel) (by decide +kernel) (by decide +kernel) (by decide +kernel)) _).trans
      (entry_frame m c s b 0)
  · intro j
    exact (congrFun (cond_keeps (atK m 6000 c) main_v103_3 (by decide)) _).trans (hl.2.2 j s b j.isLt)

theorem final_arg : finalContents condOps preI bodyI postI 6000 m c (Proc.tc.devRef main_arg0) = m (c, Proc.tc.devRef main_arg0) := by
  refine Eq.trans ?_ ((after_loop m c main_arg0 (by decide +kernel) (by decide +kernel) (by decide +kernel) (by decide +kernel) (by decide +kernel)).trans (entry_arg m c))
  show StableHlo.after hostOps0_9 (StableHlo.after condOps (atK m 6000 c)) (Proc.tc.devRef main_arg0) = _
  generalize StableHlo.after condOps (atK m 6000 c) = X
  after_reads_simp

/-- Every execution ends with the result and the argument kept. -/
theorem run : θ_run (defs (F := Ideal)) (onTc (τ := τ) (main (F := Ideal))) ⟨m, fun _ => 0, ρ⟩ (fun r => ∀ c : Dev nD,
    r.2.mem ((c.tc : Thread nD τ).loc main_v117) = result (m (c, Proc.tc.devRef main_arg0))
    ∧ r.2.mem ((c.tc : Thread nD τ).loc main_arg0) = m ((c.tc : Thread nD τ).loc main_arg0)) :=
  (θ_run (defs (F := Ideal)) _ _).mono (fun r h c => ⟨(h c main_v117 (by decide)).trans (final_result m c), (h c main_arg0 (by decide)).trans (final_arg m c)⟩)
    (run_fold m ρ)

/-- … and every semaphore at zero, there being none. -/
theorem frame : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run (defs (F := Ideal)) _ _).mono (fun r h => ⟨fun c => (h c).2, funext fun g => by
      obtain ⟨_, x⟩ := g
      cases x with
      | reg i => exact i.elim0
      | dma i => exact i.elim0⟩)
    (run m ρ)

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Points
public import proofs.«01_k».proof.Proof.RRun
public import Idealize.ShloMosaic.Adequacy
public import Idealize.ShloMosaic.Init

@[expose] public section

noncomputable section

namespace Cert.Proof

open Idealize.ShloMosaic Idealize.SL.Sem Cert.Kernel

/-- The two programs' results are one function of the argument. -/
theorem results (A : FVec Ideal Cert.KernelIdeal.S32x960000 .f32) : Cert.ReferenceIdeal.Val.result A = Cert.KernelIdeal.Block.result A := rfl

theorem algebraic : algebraic_KernelIdeal_ReferenceIdeal (hKernelIdeal := Cert.KernelIdeal.Gen.facts)
    (hReferenceIdeal := Cert.ReferenceIdeal.Gen.facts) := fun m g m' g' _ h => by
  refine ⟨fun c => Cert.KernelIdeal.Block.result (m ((c.tc : Thread Cert.KernelIdeal.nD Cert.KernelIdeal.τ).loc Cert.KernelIdeal.main_arg0)), ?_, ?_⟩
  · exact (θ_run (Cert.KernelIdeal.defs (F := Ideal)) _ _).mono
      (fun r hr c => ⟨(hr c).1.trans (Cert.KernelIdeal.Block.final m c), (hr c).2⟩) (Cert.KernelIdeal.Value.run_blocks m g)
  · exact (θ_run (Cert.ReferenceIdeal.defs (F := Ideal)) _ _).mono
      (fun r hr c => ⟨(hr c).1.trans ((congrArg Cert.ReferenceIdeal.Val.result (h c)).trans (results _)), (hr c).2⟩)
      (Cert.ReferenceIdeal.Val.run m' g')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Val.frame m ρ, trivial, algebraic⟩

end Cert.Proof

end
